-- ==== Defs.lean ====
def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1RefIdeal (m : (ℓ : Loc Cert.Ln1RefIdeal.nD Cert.Ln1RefIdeal.τ Cert.Ln1RefIdeal.sig) → Buf (Elt Ideal) ℓ) : Prop :=
  True

def Pre_QkvT (m : (ℓ : Loc Cert.QkvT.nD Cert.QkvT.τ Cert.QkvT.sig) → Buf (Elt Bits) ℓ) : Prop :=
  True

def Pre_QkvTIdeal (m : (ℓ : Loc Cert.QkvTIdeal.nD Cert.QkvTIdeal.τ Cert.QkvTIdeal.sig) → Buf (Elt Ideal) ℓ) : Prop :=
  True

def Pre_QkvTRefIdeal (m : (ℓ : Loc Cert.QkvTRefIdeal.nD Cert.QkvTRefIdeal.τ Cert.QkvTRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4))
      ∧ r.2.sem = fun _ => 0)

def quiescent_QkvT [hQkvT : Cert.QkvT.Facts] : Prop :=
  ∀ (m : (ℓ : Loc Cert.QkvT.nD Cert.QkvT.τ Cert.QkvT.sig) → Buf (Elt Bits) ℓ) (g : Dev Cert.QkvT.nD → PrngReg), Pre_QkvT m →
    θ_run (Cert.QkvT.defs (F := Bits)) (onTc (τ := Cert.QkvT.τ) (Cert.QkvT.main (F := Bits))) ⟨m, fun _ => 0, g⟩ (fun r => (∀ c : Dev Cert.QkvT.nD,
      r.2.mem ((c.tc : Thread Cert.QkvT.nD Cert.QkvT.τ).loc Cert.QkvT.main_arg0) = m ((c.tc : Thread Cert.QkvT.nD Cert.QkvT.τ).loc Cert.QkvT.main_arg0)
      ∧ r.2.mem ((c.tc : Thread Cert.QkvT.nD Cert.QkvT.τ).loc Cert.QkvT.main_arg1) = m ((c.tc : Thread Cert.QkvT.nD Cert.QkvT.τ).loc Cert.QkvT.main_arg1)
      ∧ r.2.mem ((c.tc : Thread Cert.QkvT.nD Cert.QkvT.τ).loc Cert.QkvT.main_arg2) = m ((c.tc : Thread Cert.QkvT.nD Cert.QkvT.τ).loc Cert.QkvT.main_arg2)
      ∧ r.2.mem ((c.tc : Thread Cert.QkvT.nD Cert.QkvT.τ).loc Cert.QkvT.main_arg3) = m ((c.tc : Thread Cert.QkvT.nD Cert.QkvT.τ).loc Cert.QkvT.main_arg3)
      ∧ r.2.mem ((c.tc : Thread Cert.QkvT.nD Cert.QkvT.τ).loc Cert.QkvT.main_arg4) = m ((c.tc : Thread Cert.QkvT.nD Cert.QkvT.τ).loc Cert.QkvT.main_arg4)
      ∧ r.2.mem ((c.tc : Thread Cert.QkvT.nD Cert.QkvT.τ).loc Cert.QkvT.main_arg5) = m ((c.tc : Thread Cert.QkvT.nD Cert.QkvT.τ).loc Cert.QkvT.main_arg5)
      ∧ r.2.mem ((c.tc : Thread Cert.QkvT.nD Cert.QkvT.τ).loc Cert.QkvT.main_arg6) = m ((c.tc : Thread Cert.QkvT.nD Cert.QkvT.τ).loc Cert.QkvT.main_arg6)
      ∧ r.2.mem ((c.tc : Thread Cert.QkvT.nD Cert.QkvT.τ).loc Cert.QkvT.main_arg7) = m ((c.tc : Thread Cert.QkvT.nD Cert.QkvT.τ).loc Cert.QkvT.main_arg7)
      ∧ r.2.mem ((c.tc : Thread Cert.QkvT.nD Cert.QkvT.τ).loc Cert.QkvT.main_arg8) = m ((c.tc : Thread Cert.QkvT.nD Cert.QkvT.τ).loc Cert.QkvT.main_arg8)
      ∧ r.2.mem ((c.tc : Thread Cert.QkvT.nD Cert.QkvT.τ).loc Cert.QkvT.main_arg9) = m ((c.tc : Thread Cert.QkvT.nD Cert.QkvT.τ).loc Cert.QkvT.main_arg9))
      ∧ r.2.sem = fun _ => 0)

def quiescent_QkvTIdeal [hQkvTIdeal : Cert.QkvTIdeal.Facts] : Prop :=
  ∀ (m : (ℓ : Loc Cert.QkvTIdeal.nD Cert.QkvTIdeal.τ Cert.QkvTIdeal.sig) → Buf (Elt Ideal) ℓ) (g : Dev Cert.QkvTIdeal.nD → PrngReg), Pre_QkvTIdeal m →
    θ_run (Cert.QkvTIdeal.defs (F := Ideal)) (onTc (τ := Cert.QkvTIdeal.τ) (Cert.QkvTIdeal.main (F := Ideal))) ⟨m, fun _ => 0, g⟩ (fun r => (∀ c : Dev Cert.QkvTIdeal.nD,
      r.2.mem ((c.tc : Thread Cert.QkvTIdeal.nD Cert.QkvTIdeal.τ).loc Cert.QkvTIdeal.main_arg0) = m ((c.tc : Thread Cert.QkvTIdeal.nD Cert.QkvTIdeal.τ).loc Cert.QkvTIdeal.main_arg0)
      ∧ r.2.mem ((c.tc : Thread Cert.QkvTIdeal.nD Cert.QkvTIdeal.τ).loc Cert.QkvTIdeal.main_arg1) = m ((c.tc : Thread Cert.QkvTIdeal.nD Cert.QkvTIdeal.τ).loc Cert.QkvTIdeal.main_arg1)
      ∧ r.2.mem ((c.tc : Thread Cert.QkvTIdeal.nD Cert.QkvTIdeal.τ).loc Cert.QkvTIdeal.main_arg2) = m ((c.tc : Thread Cert.QkvTIdeal.nD Cert.QkvTIdeal.τ).loc Cert.QkvTIdeal.main_arg2)
      ∧ r.2.mem ((c.tc : Thread Cert.QkvTIdeal.nD Cert.QkvTIdeal.τ).loc Cert.QkvTIdeal.main_arg3) = m ((c.tc : Thread Cert.QkvTIdeal.nD Cert.QkvTIdeal.τ).loc Cert.QkvTIdeal.main_arg3)
      ∧ r.2.mem ((c.tc : Thread Cert.QkvTIdeal.nD Cert.QkvTIdeal.τ).loc Cert.QkvTIdeal.main_arg4) = m ((c.tc : Thread Cert.QkvTIdeal.nD Cert.QkvTIdeal.τ).loc Cert.QkvTIdeal.main_arg4)
      ∧ r.2.mem ((c.tc : Thread Cert.QkvTIdeal.nD Cert.QkvTIdeal.τ).loc Cert.QkvTIdeal.main_arg5) = m ((c.tc : Thread Cert.QkvTIdeal.nD Cert.QkvTIdeal.τ).loc Cert.QkvTIdeal.main_arg5)
      ∧ r.2.mem ((c.tc : Thread Cert.QkvTIdeal.nD Cert.QkvTIdeal.τ).loc Cert.QkvTIdeal.main_arg6) = m ((c.tc : Thread Cert.QkvTIdeal.nD Cert.QkvTIdeal.τ).loc Cert.QkvTIdeal.main_arg6)
      ∧ r.2.mem ((c.tc : Thread Cert.QkvTIdeal.nD Cert.QkvTIdeal.τ).loc Cert.QkvTIdeal.main_arg7) = m ((c.tc : Thread Cert.QkvTIdeal.nD Cert.QkvTIdeal.τ).loc Cert.QkvTIdeal.main_arg7)
      ∧ r.2.mem ((c.tc : Thread Cert.QkvTIdeal.nD Cert.QkvTIdeal.τ).loc Cert.QkvTIdeal.main_arg8) = m ((c.tc : Thread Cert.QkvTIdeal.nD Cert.QkvTIdeal.τ).loc Cert.QkvTIdeal.main_arg8)
      ∧ r.2.mem ((c.tc : Thread Cert.QkvTIdeal.nD Cert.QkvTIdeal.τ).loc Cert.QkvTIdeal.main_arg9) = m ((c.tc : Thread Cert.QkvTIdeal.nD Cert.QkvTIdeal.τ).loc Cert.QkvTIdeal.main_arg9))
      ∧ r.2.sem = fun _ => 0)

def quiescent_QkvTRefIdeal [hQkvTRefIdeal : Cert.QkvTRefIdeal.Facts] : Prop :=
  ∀ (m : (ℓ : Loc Cert.QkvTRefIdeal.nD Cert.QkvTRefIdeal.τ Cert.QkvTRefIdeal.sig) → Buf (Elt Ideal) ℓ) (g : Dev Cert.QkvTRefIdeal.nD → PrngReg), Pre_QkvTRefIdeal m →
    θ_run (Cert.QkvTRefIdeal.defs (F := Ideal)) (onTc (τ := Cert.QkvTRefIdeal.τ) (Cert.QkvTRefIdeal.main (F := Ideal))) ⟨m, fun _ => 0, g⟩ (fun r => (∀ c : Dev Cert.QkvTRefIdeal.nD,
      r.2.mem ((c.tc : Thread Cert.QkvTRefIdeal.nD Cert.QkvTRefIdeal.τ).loc Cert.QkvTRefIdeal.main_arg0) = m ((c.tc : Thread Cert.QkvTRefIdeal.nD Cert.QkvTRefIdeal.τ).loc Cert.QkvTRefIdeal.main_arg0)
      ∧ r.2.mem ((c.tc : Thread Cert.QkvTRefIdeal.nD Cert.QkvTRefIdeal.τ).loc Cert.QkvTRefIdeal.main_arg1) = m ((c.tc : Thread Cert.QkvTRefIdeal.nD Cert.QkvTRefIdeal.τ).loc Cert.QkvTRefIdeal.main_arg1)
      ∧ r.2.mem ((c.tc : Thread Cert.QkvTRefIdeal.nD Cert.QkvTRefIdeal.τ).loc Cert.QkvTRefIdeal.main_arg2) = m ((c.tc : Thread Cert.QkvTRefIdeal.nD Cert.QkvTRefIdeal.τ).loc Cert.QkvTRefIdeal.main_arg2)
      ∧ r.2.mem ((c.tc : Thread Cert.QkvTRefIdeal.nD Cert.QkvTRefIdeal.τ).loc Cert.QkvTRefIdeal.main_arg3) = m ((c.tc : Thread Cert.QkvTRefIdeal.nD Cert.QkvTRefIdeal.τ).loc Cert.QkvTRefIdeal.main_arg3)
      ∧ r.2.mem ((c.tc : Thread Cert.QkvTRefIdeal.nD Cert.QkvTRefIdeal.τ).loc Cert.QkvTRefIdeal.main_arg4) = m ((c.tc : Thread Cert.QkvTRefIdeal.nD Cert.QkvTRefIdeal.τ).loc Cert.QkvTRefIdeal.main_arg4)
      ∧ r.2.mem ((c.tc : Thread Cert.QkvTRefIdeal.nD Cert.QkvTRefIdeal.τ).loc Cert.QkvTRefIdeal.main_arg5) = m ((c.tc : Thread Cert.QkvTRefIdeal.nD Cert.QkvTRefIdeal.τ).loc Cert.QkvTRefIdeal.main_arg5)
      ∧ r.2.mem ((c.tc : Thread Cert.QkvTRefIdeal.nD Cert.QkvTRefIdeal.τ).loc Cert.QkvTRefIdeal.main_arg6) = m ((c.tc : Thread Cert.QkvTRefIdeal.nD Cert.QkvTRefIdeal.τ).loc Cert.QkvTRefIdeal.main_arg6)
      ∧ r.2.mem ((c.tc : Thread Cert.QkvTRefIdeal.nD Cert.QkvTRefIdeal.τ).loc Cert.QkvTRefIdeal.main_arg7) = m ((c.tc : Thread Cert.QkvTRefIdeal.nD Cert.QkvTRefIdeal.τ).loc Cert.QkvTRefIdeal.main_arg7)
      ∧ r.2.mem ((c.tc : Thread Cert.QkvTRefIdeal.nD Cert.QkvTRefIdeal.τ).loc Cert.QkvTRefIdeal.main_arg8) = m ((c.tc : Thread Cert.QkvTRefIdeal.nD Cert.QkvTRefIdeal.τ).loc Cert.QkvTRefIdeal.main_arg8)
      ∧ r.2.mem ((c.tc : Thread Cert.QkvTRefIdeal.nD Cert.QkvTRefIdeal.τ).loc Cert.QkvTRefIdeal.main_arg9) = m ((c.tc : Thread Cert.QkvTRefIdeal.nD Cert.QkvTRefIdeal.τ).loc Cert.QkvTRefIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12))
      ∧ r.2.sem = fun _ => 0)

def preserves_Ln1_Ln1Ideal : Prop :=
  True

def algebraic_Ln1Ideal_Ln1RefIdeal [hLn1Ideal : Cert.Ln1Ideal.Facts] [hLn1RefIdeal : Cert.Ln1RefIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)
      ∧ m' ((c.tc : Thread Cert.Ln1RefIdeal.nD Cert.Ln1RefIdeal.τ).loc Cert.Ln1RefIdeal.main_arg4) = m ((c.tc : Thread Cert.Ln1Ideal.nD Cert.Ln1Ideal.τ).loc Cert.Ln1Ideal.main_arg4)) →
    ∃ (v0 : (c : Dev Cert.Ln1Ideal.nD) → Buf (Elt Ideal) ((c.tc : Thread Cert.Ln1Ideal.nD Cert.Ln1Ideal.τ).loc Cert.Ln1Ideal.main_v0_0)) (v1 : (c : Dev Cert.Ln1Ideal.nD) → Buf (Elt Ideal) ((c.tc : Thread Cert.Ln1Ideal.nD Cert.Ln1Ideal.τ).loc Cert.Ln1Ideal.main_v0_1)) (v2 : (c : Dev Cert.Ln1Ideal.nD) → Buf (Elt Ideal) ((c.tc : Thread Cert.Ln1Ideal.nD Cert.Ln1Ideal.τ).loc Cert.Ln1Ideal.main_v0_2)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v0_0) = v0 c
          ∧ r.2.mem ((c.tc : Thread Cert.Ln1Ideal.nD Cert.Ln1Ideal.τ).loc Cert.Ln1Ideal.main_v0_1) = v1 c
          ∧ r.2.mem ((c.tc : Thread Cert.Ln1Ideal.nD Cert.Ln1Ideal.τ).loc Cert.Ln1Ideal.main_v0_2) = v2 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v0_0) = v0 c
          ∧ r.2.mem ((c.tc : Thread Cert.Ln1RefIdeal.nD Cert.Ln1RefIdeal.τ).loc Cert.Ln1RefIdeal.main_v0_1) = v1 c
          ∧ r.2.mem ((c.tc : Thread Cert.Ln1RefIdeal.nD Cert.Ln1RefIdeal.τ).loc Cert.Ln1RefIdeal.main_v0_2) = v2 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4))

def preserves_QkvT_QkvTIdeal : Prop :=
  True

def algebraic_QkvTIdeal_QkvTRefIdeal [hQkvTIdeal : Cert.QkvTIdeal.Facts] [hQkvTRefIdeal : Cert.QkvTRefIdeal.Facts] : Prop :=
  ∀ (m : (ℓ : Loc Cert.QkvTIdeal.nD Cert.QkvTIdeal.τ Cert.QkvTIdeal.sig) → Buf (Elt Ideal) ℓ) (g : Dev Cert.QkvTIdeal.nD → PrngReg)
    (m' : (ℓ : Loc Cert.QkvTRefIdeal.nD Cert.QkvTRefIdeal.τ Cert.QkvTRefIdeal.sig) → Buf (Elt Ideal) ℓ) (g' : Dev Cert.QkvTRefIdeal.nD → PrngReg), Pre_QkvTIdeal m →
    (∀ c : Dev Cert.QkvTIdeal.nD,
      m' ((c.tc : Thread Cert.QkvTRefIdeal.nD Cert.QkvTRefIdeal.τ).loc Cert.QkvTRefIdeal.main_arg0) = m ((c.tc : Thread Cert.QkvTIdeal.nD Cert.QkvTIdeal.τ).loc Cert.QkvTIdeal.main_arg0)
      ∧ m' ((c.tc : Thread Cert.QkvTRefIdeal.nD Cert.QkvTRefIdeal.τ).loc Cert.QkvTRefIdeal.main_arg1) = m ((c.tc : Thread Cert.QkvTIdeal.nD Cert.QkvTIdeal.τ).loc Cert.QkvTIdeal.main_arg1)
      ∧ m' ((c.tc : Thread Cert.QkvTRefIdeal.nD Cert.QkvTRefIdeal.τ).loc Cert.QkvTRefIdeal.main_arg2) = m ((c.tc : Thread Cert.QkvTIdeal.nD Cert.QkvTIdeal.τ).loc Cert.QkvTIdeal.main_arg2)
      ∧ m' ((c.tc : Thread Cert.QkvTRefIdeal.nD Cert.QkvTRefIdeal.τ).loc Cert.QkvTRefIdeal.main_arg3) = m ((c.tc : Thread Cert.QkvTIdeal.nD Cert.QkvTIdeal.τ).loc Cert.QkvTIdeal.main_arg3)
      ∧ m' ((c.tc : Thread Cert.QkvTRefIdeal.nD Cert.QkvTRefIdeal.τ).loc Cert.QkvTRefIdeal.main_arg4) = m ((c.tc : Thread Cert.QkvTIdeal.nD Cert.QkvTIdeal.τ).loc Cert.QkvTIdeal.main_arg4)
      ∧ m' ((c.tc : Thread Cert.QkvTRefIdeal.nD Cert.QkvTRefIdeal.τ).loc Cert.QkvTRefIdeal.main_arg5) = m ((c.tc : Thread Cert.QkvTIdeal.nD Cert.QkvTIdeal.τ).loc Cert.QkvTIdeal.main_arg5)
      ∧ m' ((c.tc : Thread Cert.QkvTRefIdeal.nD Cert.QkvTRefIdeal.τ).loc Cert.QkvTRefIdeal.main_arg6) = m ((c.tc : Thread Cert.QkvTIdeal.nD Cert.QkvTIdeal.τ).loc Cert.QkvTIdeal.main_arg6)
      ∧ m' ((c.tc : Thread Cert.QkvTRefIdeal.nD Cert.QkvTRefIdeal.τ).loc Cert.QkvTRefIdeal.main_arg7) = m ((c.tc : Thread Cert.QkvTIdeal.nD Cert.QkvTIdeal.τ).loc Cert.QkvTIdeal.main_arg7)
      ∧ m' ((c.tc : Thread Cert.QkvTRefIdeal.nD Cert.QkvTRefIdeal.τ).loc Cert.QkvTRefIdeal.main_arg8) = m ((c.tc : Thread Cert.QkvTIdeal.nD Cert.QkvTIdeal.τ).loc Cert.QkvTIdeal.main_arg8)
      ∧ m' ((c.tc : Thread Cert.QkvTRefIdeal.nD Cert.QkvTRefIdeal.τ).loc Cert.QkvTRefIdeal.main_arg9) = m ((c.tc : Thread Cert.QkvTIdeal.nD Cert.QkvTIdeal.τ).loc Cert.QkvTIdeal.main_arg9)) →
    ∃ (v0 : (c : Dev Cert.QkvTIdeal.nD) → Buf (Elt Ideal) ((c.tc : Thread Cert.QkvTIdeal.nD Cert.QkvTIdeal.τ).loc Cert.QkvTIdeal.main_v0_0)) (v1 : (c : Dev Cert.QkvTIdeal.nD) → Buf (Elt Ideal) ((c.tc : Thread Cert.QkvTIdeal.nD Cert.QkvTIdeal.τ).loc Cert.QkvTIdeal.main_v0_1)) (v2 : (c : Dev Cert.QkvTIdeal.nD) → Buf (Elt Ideal) ((c.tc : Thread Cert.QkvTIdeal.nD Cert.QkvTIdeal.τ).loc Cert.QkvTIdeal.main_v0_2)) (v3 : (c : Dev Cert.QkvTIdeal.nD) → Buf (Elt Ideal) ((c.tc : Thread Cert.QkvTIdeal.nD Cert.QkvTIdeal.τ).loc Cert.QkvTIdeal.main_v0_3)) (v4 : (c : Dev Cert.QkvTIdeal.nD) → Buf (Elt Ideal) ((c.tc : Thread Cert.QkvTIdeal.nD Cert.QkvTIdeal.τ).loc Cert.QkvTIdeal.main_v0_4)) (v5 : (c : Dev Cert.QkvTIdeal.nD) → Buf (Elt Ideal) ((c.tc : Thread Cert.QkvTIdeal.nD Cert.QkvTIdeal.τ).loc Cert.QkvTIdeal.main_v0_5)) (v6 : (c : Dev Cert.QkvTIdeal.nD) → Buf (Elt Ideal) ((c.tc : Thread Cert.QkvTIdeal.nD Cert.QkvTIdeal.τ).loc Cert.QkvTIdeal.main_v0_6)) (v7 : (c : Dev Cert.QkvTIdeal.nD) → Buf (Elt Ideal) ((c.tc : Thread Cert.QkvTIdeal.nD Cert.QkvTIdeal.τ).loc Cert.QkvTIdeal.main_v0_7)),
      θ_run (Cert.QkvTIdeal.defs (F := Ideal)) (onTc (τ := Cert.QkvTIdeal.τ) (Cert.QkvTIdeal.main (F := Ideal))) ⟨m, fun _ => 0, g⟩ (fun r => ∀ c : Dev Cert.QkvTIdeal.nD,
          r.2.mem ((c.tc : Thread Cert.QkvTIdeal.nD Cert.QkvTIdeal.τ).loc Cert.QkvTIdeal.main_v0_0) = v0 c
          ∧ r.2.mem ((c.tc : Thread Cert.QkvTIdeal.nD Cert.QkvTIdeal.τ).loc Cert.QkvTIdeal.main_v0_1) = v1 c
          ∧ r.2.mem ((c.tc : Thread Cert.QkvTIdeal.nD Cert.QkvTIdeal.τ).loc Cert.QkvTIdeal.main_v0_2) = v2 c
          ∧ r.2.mem ((c.tc : Thread Cert.QkvTIdeal.nD Cert.QkvTIdeal.τ).loc Cert.QkvTIdeal.main_v0_3) = v3 c
          ∧ r.2.mem ((c.tc : Thread Cert.QkvTIdeal.nD Cert.QkvTIdeal.τ).loc Cert.QkvTIdeal.main_v0_4) = v4 c
          ∧ r.2.mem ((c.tc : Thread Cert.QkvTIdeal.nD Cert.QkvTIdeal.τ).loc Cert.QkvTIdeal.main_v0_5) = v5 c
          ∧ r.2.mem ((c.tc : Thread Cert.QkvTIdeal.nD Cert.QkvTIdeal.τ).loc Cert.QkvTIdeal.main_v0_6) = v6 c
          ∧ r.2.mem ((c.tc : Thread Cert.QkvTIdeal.nD Cert.QkvTIdeal.τ).loc Cert.QkvTIdeal.main_v0_7) = v7 c
          ∧ r.2.mem ((c.tc : Thread Cert.QkvTIdeal.nD Cert.QkvTIdeal.τ).loc Cert.QkvTIdeal.main_arg0) = m ((c.tc : Thread Cert.QkvTIdeal.nD Cert.QkvTIdeal.τ).loc Cert.QkvTIdeal.main_arg0)
          ∧ r.2.mem ((c.tc : Thread Cert.QkvTIdeal.nD Cert.QkvTIdeal.τ).loc Cert.QkvTIdeal.main_arg1) = m ((c.tc : Thread Cert.QkvTIdeal.nD Cert.QkvTIdeal.τ).loc Cert.QkvTIdeal.main_arg1)
          ∧ r.2.mem ((c.tc : Thread Cert.QkvTIdeal.nD Cert.QkvTIdeal.τ).loc Cert.QkvTIdeal.main_arg2) = m ((c.tc : Thread Cert.QkvTIdeal.nD Cert.QkvTIdeal.τ).loc Cert.QkvTIdeal.main_arg2)
          ∧ r.2.mem ((c.tc : Thread Cert.QkvTIdeal.nD Cert.QkvTIdeal.τ).loc Cert.QkvTIdeal.main_arg3) = m ((c.tc : Thread Cert.QkvTIdeal.nD Cert.QkvTIdeal.τ).loc Cert.QkvTIdeal.main_arg3)
          ∧ r.2.mem ((c.tc : Thread Cert.QkvTIdeal.nD Cert.QkvTIdeal.τ).loc Cert.QkvTIdeal.main_arg4) = m ((c.tc : Thread Cert.QkvTIdeal.nD Cert.QkvTIdeal.τ).loc Cert.QkvTIdeal.main_arg4)
          ∧ r.2.mem ((c.tc : Thread Cert.QkvTIdeal.nD Cert.QkvTIdeal.τ).loc Cert.QkvTIdeal.main_arg5) = m ((c.tc : Thread Cert.QkvTIdeal.nD Cert.QkvTIdeal.τ).loc Cert.QkvTIdeal.main_arg5)
          ∧ r.2.mem ((c.tc : Thread Cert.QkvTIdeal.nD Cert.QkvTIdeal.τ).loc Cert.QkvTIdeal.main_arg6) = m ((c.tc : Thread Cert.QkvTIdeal.nD Cert.QkvTIdeal.τ).loc Cert.QkvTIdeal.main_arg6)
          ∧ r.2.mem ((c.tc : Thread Cert.QkvTIdeal.nD Cert.QkvTIdeal.τ).loc Cert.QkvTIdeal.main_arg7) = m ((c.tc : Thread Cert.QkvTIdeal.nD Cert.QkvTIdeal.τ).loc Cert.QkvTIdeal.main_arg7)
          ∧ r.2.mem ((c.tc : Thread Cert.QkvTIdeal.nD Cert.QkvTIdeal.τ).loc Cert.QkvTIdeal.main_arg8) = m ((c.tc : Thread Cert.QkvTIdeal.nD Cert.QkvTIdeal.τ).loc Cert.QkvTIdeal.main_arg8)
          ∧ r.2.mem ((c.tc : Thread Cert.QkvTIdeal.nD Cert.QkvTIdeal.τ).loc Cert.QkvTIdeal.main_arg9) = m ((c.tc : Thread Cert.QkvTIdeal.nD Cert.QkvTIdeal.τ).loc Cert.QkvTIdeal.main_arg9))
      ∧ θ_run (Cert.QkvTRefIdeal.defs (F := Ideal)) (onTc (τ := Cert.QkvTRefIdeal.τ) (Cert.QkvTRefIdeal.main (F := Ideal))) ⟨m', fun _ => 0, g'⟩ (fun r => ∀ c : Dev Cert.QkvTRefIdeal.nD,
          r.2.mem ((c.tc : Thread Cert.QkvTRefIdeal.nD Cert.QkvTRefIdeal.τ).loc Cert.QkvTRefIdeal.main_v0_0) = v0 c
          ∧ r.2.mem ((c.tc : Thread Cert.QkvTRefIdeal.nD Cert.QkvTRefIdeal.τ).loc Cert.QkvTRefIdeal.main_v0_1) = v1 c
          ∧ r.2.mem ((c.tc : Thread Cert.QkvTRefIdeal.nD Cert.QkvTRefIdeal.τ).loc Cert.QkvTRefIdeal.main_v0_2) = v2 c
          ∧ r.2.mem ((c.tc : Thread Cert.QkvTRefIdeal.nD Cert.QkvTRefIdeal.τ).loc Cert.QkvTRefIdeal.main_v0_3) = v3 c
          ∧ r.2.mem ((c.tc : Thread Cert.QkvTRefIdeal.nD Cert.QkvTRefIdeal.τ).loc Cert.QkvTRefIdeal.main_v0_4) = v4 c
          ∧ r.2.mem ((c.tc : Thread Cert.QkvTRefIdeal.nD Cert.QkvTRefIdeal.τ).loc Cert.QkvTRefIdeal.main_v0_5) = v5 c
          ∧ r.2.mem ((c.tc : Thread Cert.QkvTRefIdeal.nD Cert.QkvTRefIdeal.τ).loc Cert.QkvTRefIdeal.main_v0_6) = v6 c
          ∧ r.2.mem ((c.tc : Thread Cert.QkvTRefIdeal.nD Cert.QkvTRefIdeal.τ).loc Cert.QkvTRefIdeal.main_v0_7) = v7 c
          ∧ r.2.mem ((c.tc : Thread Cert.QkvTRefIdeal.nD Cert.QkvTRefIdeal.τ).loc Cert.QkvTRefIdeal.main_arg0) = m' ((c.tc : Thread Cert.QkvTRefIdeal.nD Cert.QkvTRefIdeal.τ).loc Cert.QkvTRefIdeal.main_arg0)
          ∧ r.2.mem ((c.tc : Thread Cert.QkvTRefIdeal.nD Cert.QkvTRefIdeal.τ).loc Cert.QkvTRefIdeal.main_arg1) = m' ((c.tc : Thread Cert.QkvTRefIdeal.nD Cert.QkvTRefIdeal.τ).loc Cert.QkvTRefIdeal.main_arg1)
          ∧ r.2.mem ((c.tc : Thread Cert.QkvTRefIdeal.nD Cert.QkvTRefIdeal.τ).loc Cert.QkvTRefIdeal.main_arg2) = m' ((c.tc : Thread Cert.QkvTRefIdeal.nD Cert.QkvTRefIdeal.τ).loc Cert.QkvTRefIdeal.main_arg2)
          ∧ r.2.mem ((c.tc : Thread Cert.QkvTRefIdeal.nD Cert.QkvTRefIdeal.τ).loc Cert.QkvTRefIdeal.main_arg3) = m' ((c.tc : Thread Cert.QkvTRefIdeal.nD Cert.QkvTRefIdeal.τ).loc Cert.QkvTRefIdeal.main_arg3)
          ∧ r.2.mem ((c.tc : Thread Cert.QkvTRefIdeal.nD Cert.QkvTRefIdeal.τ).loc Cert.QkvTRefIdeal.main_arg4) = m' ((c.tc : Thread Cert.QkvTRefIdeal.nD Cert.QkvTRefIdeal.τ).loc Cert.QkvTRefIdeal.main_arg4)
          ∧ r.2.mem ((c.tc : Thread Cert.QkvTRefIdeal.nD Cert.QkvTRefIdeal.τ).loc Cert.QkvTRefIdeal.main_arg5) = m' ((c.tc : Thread Cert.QkvTRefIdeal.nD Cert.QkvTRefIdeal.τ).loc Cert.QkvTRefIdeal.main_arg5)
          ∧ r.2.mem ((c.tc : Thread Cert.QkvTRefIdeal.nD Cert.QkvTRefIdeal.τ).loc Cert.QkvTRefIdeal.main_arg6) = m' ((c.tc : Thread Cert.QkvTRefIdeal.nD Cert.QkvTRefIdeal.τ).loc Cert.QkvTRefIdeal.main_arg6)
          ∧ r.2.mem ((c.tc : Thread Cert.QkvTRefIdeal.nD Cert.QkvTRefIdeal.τ).loc Cert.QkvTRefIdeal.main_arg7) = m' ((c.tc : Thread Cert.QkvTRefIdeal.nD Cert.QkvTRefIdeal.τ).loc Cert.QkvTRefIdeal.main_arg7)
          ∧ r.2.mem ((c.tc : Thread Cert.QkvTRefIdeal.nD Cert.QkvTRefIdeal.τ).loc Cert.QkvTRefIdeal.main_arg8) = m' ((c.tc : Thread Cert.QkvTRefIdeal.nD Cert.QkvTRefIdeal.τ).loc Cert.QkvTRefIdeal.main_arg8)
          ∧ r.2.mem ((c.tc : Thread Cert.QkvTRefIdeal.nD Cert.QkvTRefIdeal.τ).loc Cert.QkvTRefIdeal.main_arg9) = m' ((c.tc : Thread Cert.QkvTRefIdeal.nD Cert.QkvTRefIdeal.τ).loc Cert.QkvTRefIdeal.main_arg9))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)) (v4 : (c : Dev Cert.MlpIdeal.nD) → Buf (Elt Ideal) ((c.tc : Thread Cert.MlpIdeal.nD Cert.MlpIdeal.τ).loc Cert.MlpIdeal.main_v0_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_v0_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_v0_2) = v2 c
          ∧ r.2.mem ((c.tc : Thread Cert.MlpRefIdeal.nD Cert.MlpRefIdeal.τ).loc Cert.MlpRefIdeal.main_v0_3) = v3 c
          ∧ r.2.mem ((c.tc : Thread Cert.MlpRefIdeal.nD Cert.MlpRefIdeal.τ).loc Cert.MlpRefIdeal.main_v0_4) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12))

def Claim : Prop :=
  ∃ (hLn1 : Cert.Ln1.Facts) (hLn1Ideal : Cert.Ln1Ideal.Facts) (hLn1RefIdeal : Cert.Ln1RefIdeal.Facts) (hQkvT : Cert.QkvT.Facts) (hQkvTIdeal : Cert.QkvTIdeal.Facts) (hQkvTRefIdeal : Cert.QkvTRefIdeal.Facts) (hMlp : Cert.Mlp.Facts) (hMlpIdeal : Cert.MlpIdeal.Facts) (hMlpRefIdeal : Cert.MlpRefIdeal.Facts),
    quiescent_Ln1 (hLn1 := hLn1)
    ∧ quiescent_Ln1Ideal (hLn1Ideal := hLn1Ideal)
    ∧ quiescent_Ln1RefIdeal (hLn1RefIdeal := hLn1RefIdeal)
    ∧ quiescent_QkvT (hQkvT := hQkvT)
    ∧ quiescent_QkvTIdeal (hQkvTIdeal := hQkvTIdeal)
    ∧ quiescent_QkvTRefIdeal (hQkvTRefIdeal := hQkvTRefIdeal)
    ∧ quiescent_Mlp (hMlp := hMlp)
    ∧ quiescent_MlpIdeal (hMlpIdeal := hMlpIdeal)
    ∧ quiescent_MlpRefIdeal (hMlpRefIdeal := hMlpRefIdeal)
    ∧ preserves_Ln1_Ln1Ideal
    ∧ algebraic_Ln1Ideal_Ln1RefIdeal (hLn1Ideal := hLn1Ideal) (hLn1RefIdeal := hLn1RefIdeal)
    ∧ preserves_QkvT_QkvTIdeal
    ∧ algebraic_QkvTIdeal_QkvTRefIdeal (hQkvTIdeal := hQkvTIdeal) (hQkvTRefIdeal := hQkvTRefIdeal)
    ∧ preserves_Mlp_MlpIdeal
    ∧ algebraic_MlpIdeal_MlpRefIdeal (hMlpIdeal := hMlpIdeal) (hMlpRefIdeal := hMlpRefIdeal)
-- ==== Ln1.lean ====
abbrev S460x8x2048 : Shape := ⟨3, ![460, 8, 2048]⟩
abbrev S1x2048 : Shape := ⟨2, ![1, 2048]⟩
abbrev S2048x6144 : Shape := ⟨2, ![2048, 6144]⟩
abbrev S1x6144 : Shape := ⟨2, ![1, 6144]⟩
abbrev S3680x1 : Shape := ⟨2, ![3680, 1]⟩
abbrev S460x8x6144 : Shape := ⟨3, ![460, 8, 6144]⟩
abbrev S20x8x2048 : Shape := ⟨3, ![20, 8, 2048]⟩
abbrev S160x1 : Shape := ⟨2, ![160, 1]⟩
abbrev S20x8x6144 : Shape := ⟨3, ![20, 8, 6144]⟩
abbrev S160x2048 : Shape := ⟨2, ![160, 2048]⟩
abbrev S160 : Shape := ⟨1, ![160]⟩
abbrev S2048x1024 : Shape := ⟨2, ![2048, 1024]⟩
abbrev S160x1024 : Shape := ⟨2, ![160, 1024]⟩
abbrev S1x1024 : Shape := ⟨2, ![1, 1024]⟩
abbrev S20x8x1024 : Shape := ⟨3, ![20, 8, 1024]⟩

abbrev nBuf : Space → Nat
  | .hbm => 8
  | .vmem => 12
  | .smem => 0
  | _ => 0

abbrev bufTy : (tb : Table) → Fin (tcTables nBuf tb) → BufTy
  | .hbm, ⟨0, _⟩ => ⟨S460x8x2048, .bf16⟩
  | .hbm, ⟨1, _⟩ => ⟨S1x2048, .f32⟩
  | .hbm, ⟨2, _⟩ => ⟨S1x2048, .f32⟩
  | .hbm, ⟨3, _⟩ => ⟨S2048x6144, .fp8e4m3⟩
  | .hbm, ⟨4, _⟩ => ⟨S1x6144, .f32⟩
  | .hbm, ⟨5, _⟩ => ⟨S460x8x2048, .fp8e4m3⟩
  | .hbm, ⟨6, _⟩ => ⟨S3680x1, .f32⟩
  | .hbm, ⟨7, _⟩ => ⟨S460x8x6144, .bf16⟩
  | .local _ .vmem, ⟨0, _⟩ => ⟨S20x8x2048, .bf16⟩
  | .local _ .vmem, ⟨1, _⟩ => ⟨S20x8x2048, .bf16⟩
  | .local _ .vmem, ⟨2, _⟩ => ⟨S1x2048, .f32⟩
  | .local _ .vmem, ⟨3, _⟩ => ⟨S1x2048, .f32⟩
  | .local _ .vmem, ⟨4, _⟩ => ⟨S2048x6144, .fp8e4m3⟩
  | .local _ .vmem, ⟨5, _⟩ => ⟨S1x6144, .f32⟩
  | .local _ .vmem, ⟨6, _⟩ => ⟨S20x8x2048, .fp8e4m3⟩
  | .local _ .vmem, ⟨7, _⟩ => ⟨S20x8x2048, .fp8e4m3⟩
  | .local _ .vmem, ⟨8, _⟩ => ⟨S160x1, .f32⟩
  | .local _ .vmem, ⟨9, _⟩ => ⟨S160x1, .f32⟩
  | .local _ .vmem, ⟨10, _⟩ => ⟨S20x8x6144, .bf16⟩
  | .local _ .vmem, ⟨11, _⟩ => ⟨S20x8x6144, .bf16⟩
  | _, _ => ⟨S460x8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x8x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20x8x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S20x8x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ln1RefIdeal.lean ====
abbrev S460x8x2048 : Shape := ⟨3, ![460, 8, 2048]⟩
abbrev S1x2048 : Shape := ⟨2, ![1, 2048]⟩
abbrev S2048x6144 : Shape := ⟨2, ![2048, 6144]⟩
abbrev S1x6144 : Shape := ⟨2, ![1, 6144]⟩
abbrev S3680x1 : Shape := ⟨2, ![3680, 1]⟩
abbrev S460x8x6144 : Shape := ⟨3, ![460, 8, 6144]⟩
abbrev S460x8 : Shape := ⟨2, ![460, 8]⟩
abbrev S460x8x1 : Shape := ⟨3, ![460, 8, 1]⟩
abbrev S1x1x2048 : Shape := ⟨3, ![1, 1, 2048]⟩
abbrev S1x1x6144 : Shape := ⟨3, ![1, 1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S460x8x2048, .bf16⟩
  | .hbm, ⟨1, _⟩ => ⟨S1x2048, .f32⟩
  | .hbm, ⟨2, _⟩ => ⟨S1x2048, .f32⟩
  | .hbm, ⟨3, _⟩ => ⟨S2048x6144, .fp8e4m3⟩
  | .hbm, ⟨4, _⟩ => ⟨S1x6144, .f32⟩
  | .hbm, ⟨5, _⟩ => ⟨S460x8x2048, .fp8e4m3⟩
  | .hbm, ⟨6, _⟩ => ⟨S3680x1, .f32⟩
  | .hbm, ⟨7, _⟩ => ⟨S460x8x6144, .bf16⟩
  | .local _ .vmem, ⟨0, _⟩ => ⟨S460x8x2048, .bf16⟩
  | .local _ .vmem, ⟨1, _⟩ => ⟨S1x2048, .f32⟩
  | .local _ .vmem, ⟨2, _⟩ => ⟨S1x2048, .f32⟩
  | .local _ .vmem, ⟨3, _⟩ => ⟨S2048x6144, .fp8e4m3⟩
  | .local _ .vmem, ⟨4, _⟩ => ⟨S1x6144, .f32⟩
  | .local _ .vmem, ⟨5, _⟩ => ⟨S460x8x2048, .fp8e4m3⟩
  | .local _ .vmem, ⟨6, _⟩ => ⟨S3680x1, .f32⟩
  | .local _ .vmem, ⟨7, _⟩ => ⟨S460x8x6144, .bf16⟩
  | _, _ => ⟨S460x8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S460x8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S460x8x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3680x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S460x8x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QkvT.lean ====
abbrev S4x920x2048 : Shape := ⟨3, ![4, 920, 2048]⟩
abbrev S4x920x1 : Shape := ⟨3, ![4, 920, 1]⟩
abbrev S2048x2048 : Shape := ⟨2, ![2048, 2048]⟩
abbrev S1x2048 : Shape := ⟨2, ![1, 2048]⟩
abbrev S4x1x2048 : Shape := ⟨3, ![4, 1, 2048]⟩
abbrev S2048x6144 : Shape := ⟨2, ![2048, 6144]⟩
abbrev S1x6144 : Shape := ⟨2, ![1, 6144]⟩
abbrev S4x920x6144 : Shape := ⟨3, ![4, 920, 6144]⟩
abbrev S4x920x16x128 : Shape := ⟨4, ![4, 920, 16, 128]⟩
abbrev S4x16x920 : Shape := ⟨3, ![4, 16, 920]⟩
abbrev S1x184x2048 : Shape := ⟨3, ![1, 184, 2048]⟩
abbrev S1x184x1 : Shape := ⟨3, ![1, 184, 1]⟩
abbrev S1x1x2048 : Shape := ⟨3, ![1, 1, 2048]⟩
abbrev S1x184x6144 : Shape := ⟨3, ![1, 184, 6144]⟩
abbrev S1x184x16x128 : Shape := ⟨4, ![1, 184, 16, 128]⟩
abbrev S1x16x920 : Shape := ⟨3, ![1, 16, 920]⟩
abbrev S920x128 : Shape := ⟨2, ![920, 128]⟩
abbrev S184x2048 : Shape := ⟨2, ![184, 2048]⟩
abbrev S184x1 : Shape := ⟨2, ![184, 1]⟩
abbrev S184 : Shape := ⟨1, ![184]⟩
abbrev S184x128 : Shape := ⟨2, ![184, 128]⟩
abbrev S2048x1024 : Shape := ⟨2, ![2048, 1024]⟩
abbrev S184x1024 : Shape := ⟨2, ![184, 1024]⟩
abbrev S1x1024 : Shape := ⟨2, ![1, 1024]⟩
abbrev S1x184x1024 : Shape := ⟨3, ![1, 184, 1024]⟩
abbrev S184x8x128 : Shape := ⟨3, ![184, 8, 128]⟩
abbrev S1x184x8x128 : Shape := ⟨4, ![1, 184, 8, 128]⟩
abbrev S128x920 : Shape := ⟨2, ![128, 920]⟩
abbrev S16x920 : Shape := ⟨2, ![16, 920]⟩

abbrev nBuf : Space → Nat
  | .hbm => 18
  | .vmem => 31
  | .smem => 0
  | _ => 0

abbrev bufTy : (tb : Table) → Fin (tcTables nBuf tb) → BufTy
  | .hbm, ⟨0, _⟩ => ⟨S4x920x2048, .fp8e4m3⟩
  | .hbm, ⟨1, _⟩ => ⟨S4x920x1, .f32⟩
  | .hbm, ⟨2, _⟩ => ⟨S4x920x2048, .bf16⟩
  | .hbm, ⟨3, _⟩ => ⟨S2048x2048, .fp8e4m3⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4x1x2048, .f32⟩
  | .hbm, ⟨8, _⟩ => ⟨S2048x6144, .fp8e4m3⟩
  | .hbm, ⟨9, _⟩ => ⟨S1x6144, .f32⟩
  | .hbm, ⟨10, _⟩ => ⟨S4x920x2048, .f32⟩
  | .hbm, ⟨11, _⟩ => ⟨S4x920x2048, .fp8e4m3⟩
  | .hbm, ⟨12, _⟩ => ⟨S4x920x1, .f32⟩
  | .hbm, ⟨13, _⟩ => ⟨S4x920x6144, .bf16⟩
  | .hbm, ⟨14, _⟩ => ⟨S4x920x16x128, .i8⟩
  | .hbm, ⟨15, _⟩ => ⟨S4x920x16x128, .i8⟩
  | .hbm, ⟨16, _⟩ => ⟨S4x16x920, .f32⟩
  | .hbm, ⟨17, _⟩ => ⟨S4x16x920, .f32⟩
  | .local _ .vmem, ⟨0, _⟩ => ⟨S1x184x2048, .fp8e4m3⟩
  | .local _ .vmem, ⟨1, _⟩ => ⟨S1x184x2048, .fp8e4m3⟩
  | .local _ .vmem, ⟨2, _⟩ => ⟨S1x184x1, .f32⟩
  | .local _ .vmem, ⟨3, _⟩ => ⟨S1x184x1, .f32⟩
  | .local _ .vmem, ⟨4, _⟩ => ⟨S1x184x2048, .bf16⟩
  | .local _ .vmem, ⟨5, _⟩ => ⟨S1x184x2048, .bf16⟩
  | .local _ .vmem, ⟨6, _⟩ => ⟨S2048x2048, .fp8e4m3⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x6144, .fp8e4m3⟩
  | .local _ .vmem, ⟨13, _⟩ => ⟨S1x6144, .f32⟩
  | .local _ .vmem, ⟨14, _⟩ => ⟨S1x184x2048, .f32⟩
  | .local _ .vmem, ⟨15, _⟩ => ⟨S1x184x2048, .f32⟩
  | .local _ .vmem, ⟨16, _⟩ => ⟨S1x184x2048, .fp8e4m3⟩
  | .local _ .vmem, ⟨17, _⟩ => ⟨S1x184x2048, .fp8e4m3⟩
  | .local _ .vmem, ⟨18, _⟩ => ⟨S1x184x1, .f32⟩
  | .local _ .vmem, ⟨19, _⟩ => ⟨S1x184x1, .f32⟩
  | .local _ .vmem, ⟨20, _⟩ => ⟨S1x184x6144, .bf16⟩
  | .local _ .vmem, ⟨21, _⟩ => ⟨S1x184x6144, .bf16⟩
  | .local _ .vmem, ⟨22, _⟩ => ⟨S1x184x16x128, .i8⟩
  | .local _ .vmem, ⟨23, _⟩ => ⟨S1x184x16x128, .i8⟩
  | .local _ .vmem, ⟨24, _⟩ => ⟨S1x184x16x128, .i8⟩
  | .local _ .vmem, ⟨25, _⟩ => ⟨S1x184x16x128, .i8⟩
  | .local _ .vmem, ⟨26, _⟩ => ⟨S1x16x920, .f32⟩
  | .local _ .vmem, ⟨27, _⟩ => ⟨S1x16x920, .f32⟩
  | .local _ .vmem, ⟨28, _⟩ => ⟨S1x16x920, .f32⟩
  | .local _ .vmem, ⟨29, _⟩ => ⟨S1x16x920, .f32⟩
  | .local _ .vmem, ⟨30, _⟩ => ⟨S920x128, .f32⟩
  | _, _ => ⟨S4x920x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 5], ![false, false]⟩

def k0_mult1 (i : grid0.Coords) : BitVec 32 :=
  let arg1 : BitVec 32 := BitVec.ofNat 32 (i 1).val
  let c184_i32 : BitVec 32 := 184#32
  let v933 : BitVec 32 := Scalar.muli arg1 c184_i32
  v933
def k0_off1 (i : grid0.Coords) : Fin 2 → Nat :=
  let arg1 : BitVec 32 := BitVec.ofNat 32 (i 1).val
  let c184_i32 : BitVec 32 := 184#32
  let v933 : BitVec 32 := Scalar.muli arg1 c184_i32
  let v934 : BitVec 32 := v933
  let v935 : Index := Scalar.indexCast v934
  let c0_326 : Index := 0#32
  ![v935.toNat, 0]
def k0_cond2 (i : grid0.Coords) : BitVec 1 :=
  let arg1 : BitVec 32 := BitVec.ofNat 32 (i 1).val
  let c4_i32_327 : BitVec 32 := 4#32
  let v939 : BitVec 1 := Scalar.cmpi .eq arg1 c4_i32_327
  let v940 : BitVec 32 := Scalar.extui v939
  let c0_i32_328 : BitVec 32 := 0#32
  let v941 : BitVec 1 := Scalar.cmpi .ne v940 c0_i32_328
  v941

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x184x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x184x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x184x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2048x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x184x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x184x2048 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x184x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x184x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x184x16x128 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x184x16x128 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x920 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x16x920 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== QkvTRefIdeal.lean ====
abbrev S4x920x2048 : Shape := ⟨3, ![4, 920, 2048]⟩
abbrev S4x920x1 : Shape := ⟨3, ![4, 920, 1]⟩
abbrev S2048x2048 : Shape := ⟨2, ![2048, 2048]⟩
abbrev S1x2048 : Shape := ⟨2, ![1, 2048]⟩
abbrev S4x1x2048 : Shape := ⟨3, ![4, 1, 2048]⟩
abbrev S2048x6144 : Shape := ⟨2, ![2048, 6144]⟩
abbrev S1x6144 : Shape := ⟨2, ![1, 6144]⟩
abbrev S4x920x6144 : Shape := ⟨3, ![4, 920, 6144]⟩
abbrev S4x920x16x128 : Shape := ⟨4, ![4, 920, 16, 128]⟩
abbrev S4x16x920 : Shape := ⟨3, ![4, 16, 920]⟩
abbrev S1x1x2048 : Shape := ⟨3, ![1, 1, 2048]⟩
abbrev S4x920 : Shape := ⟨2, ![4, 920]⟩
abbrev S1x1x6144 : Shape := ⟨3, ![1, 1, 6144]⟩
abbrev S4x920x48x128 : Shape := ⟨4, ![4, 920, 48, 128]⟩
abbrev S4x920x16 : Shape := ⟨3, ![4, 920, 16]⟩
abbrev S4x920x16x1 : Shape := ⟨4, ![4, 920, 16, 1]⟩

abbrev nBuf : Space → Nat
  | .hbm => 18
  | .vmem => 18
  | .smem => 0
  | _ => 0

abbrev bufTy : (tb : Table) → Fin (tcTables nBuf tb) → BufTy
  | .hbm, ⟨0, _⟩ => ⟨S4x920x2048, .fp8e4m3⟩
  | .hbm, ⟨1, _⟩ => ⟨S4x920x1, .f32⟩
  | .hbm, ⟨2, _⟩ => ⟨S4x920x2048, .bf16⟩
  | .hbm, ⟨3, _⟩ => ⟨S2048x2048, .fp8e4m3⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4x1x2048, .f32⟩
  | .hbm, ⟨8, _⟩ => ⟨S2048x6144, .fp8e4m3⟩
  | .hbm, ⟨9, _⟩ => ⟨S1x6144, .f32⟩
  | .hbm, ⟨10, _⟩ => ⟨S4x920x2048, .f32⟩
  | .hbm, ⟨11, _⟩ => ⟨S4x920x2048, .fp8e4m3⟩
  | .hbm, ⟨12, _⟩ => ⟨S4x920x1, .f32⟩
  | .hbm, ⟨13, _⟩ => ⟨S4x920x6144, .bf16⟩
  | .hbm, ⟨14, _⟩ => ⟨S4x920x16x128, .i8⟩
  | .hbm, ⟨15, _⟩ => ⟨S4x920x16x128, .i8⟩
  | .hbm, ⟨16, _⟩ => ⟨S4x16x920, .f32⟩
  | .hbm, ⟨17, _⟩ => ⟨S4x16x920, .f32⟩
  | .local _ .vmem, ⟨0, _⟩ => ⟨S4x920x2048, .fp8e4m3⟩
  | .local _ .vmem, ⟨1, _⟩ => ⟨S4x920x1, .f32⟩
  | .local _ .vmem, ⟨2, _⟩ => ⟨S4x920x2048, .bf16⟩
  | .local _ .vmem, ⟨3, _⟩ => ⟨S2048x2048, .fp8e4m3⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S4x1x2048, .f32⟩
  | .local _ .vmem, ⟨8, _⟩ => ⟨S2048x6144, .fp8e4m3⟩
  | .local _ .vmem, ⟨9, _⟩ => ⟨S1x6144, .f32⟩
  | .local _ .vmem, ⟨10, _⟩ => ⟨S4x920x2048, .f32⟩
  | .local _ .vmem, ⟨11, _⟩ => ⟨S4x920x2048, .fp8e4m3⟩
  | .local _ .vmem, ⟨12, _⟩ => ⟨S4x920x1, .f32⟩
  | .local _ .vmem, ⟨13, _⟩ => ⟨S4x920x6144, .bf16⟩
  | .local _ .vmem, ⟨14, _⟩ => ⟨S4x920x16x128, .i8⟩
  | .local _ .vmem, ⟨15, _⟩ => ⟨S4x920x16x128, .i8⟩
  | .local _ .vmem, ⟨16, _⟩ => ⟨S4x16x920, .f32⟩
  | .local _ .vmem, ⟨17, _⟩ => ⟨S4x16x920, .f32⟩
  | _, _ => ⟨S4x920x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S4x920x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x920x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x920x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x920x2048 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x920x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x920x6144 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x920x16x128 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x920x16x128 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x16x920 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x16x920 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Mlp.lean ====
abbrev S460x8x2048 : Shape := ⟨3, ![460, 8, 2048]⟩
abbrev S3680x1 : Shape := ⟨2, ![3680, 1]⟩
abbrev S3680x2048 : Shape := ⟨2, ![3680, 2048]⟩
abbrev S2048x2048 : Shape := ⟨2, ![2048, 2048]⟩
abbrev S1x2048 : Shape := ⟨2, ![1, 2048]⟩
abbrev S2048x8192 : Shape := ⟨2, ![2048, 8192]⟩
abbrev S1x8192 : Shape := ⟨2, ![1, 8192]⟩
abbrev S8192x2048 : Shape := ⟨2, ![8192, 2048]⟩
abbrev S460x8x8192 : Shape := ⟨3, ![460, 8, 8192]⟩
abbrev S20x8x2048 : Shape := ⟨3, ![20, 8, 2048]⟩
abbrev S160x1 : Shape := ⟨2, ![160, 1]⟩
abbrev S160x2048 : Shape := ⟨2, ![160, 2048]⟩
abbrev S20x8x8192 : Shape := ⟨3, ![20, 8, 8192]⟩
abbrev S160x8192 : Shape := ⟨2, ![160, 8192]⟩
abbrev S160 : Shape := ⟨1, ![160]⟩
abbrev S160x128 : Shape := ⟨2, ![160, 128]⟩
abbrev S2048x1024 : Shape := ⟨2, ![2048, 1024]⟩
abbrev S160x1024 : Shape := ⟨2, ![160, 1024]⟩
abbrev S1x1024 : Shape := ⟨2, ![1, 1024]⟩
abbrev S8192x1024 : Shape := ⟨2, ![8192, 1024]⟩
abbrev S20x8x1024 : Shape := ⟨3, ![20, 8, 1024]⟩

abbrev nBuf : Space → Nat
  | .hbm => 18
  | .vmem => 27
  | .smem => 0
  | _ => 0

abbrev bufTy : (tb : Table) → Fin (tcTables nBuf tb) → BufTy
  | .hbm, ⟨0, _⟩ => ⟨S460x8x2048, .fp8e4m3⟩
  | .hbm, ⟨1, _⟩ => ⟨S3680x1, .f32⟩
  | .hbm, ⟨2, _⟩ => ⟨S3680x2048, .f32⟩
  | .hbm, ⟨3, _⟩ => ⟨S2048x2048, .fp8e4m3⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x8192, .fp8e4m3⟩
  | .hbm, ⟨8, _⟩ => ⟨S1x8192, .f32⟩
  | .hbm, ⟨9, _⟩ => ⟨S1x8192, .f32⟩
  | .hbm, ⟨10, _⟩ => ⟨S8192x2048, .fp8e4m3⟩
  | .hbm, ⟨11, _⟩ => ⟨S1x2048, .f32⟩
  | .hbm, ⟨12, _⟩ => ⟨S1x2048, .f32⟩
  | .hbm, ⟨13, _⟩ => ⟨S460x8x2048, .bf16⟩
  | .hbm, ⟨14, _⟩ => ⟨S460x8x2048, .fp8e4m3⟩
  | .hbm, ⟨15, _⟩ => ⟨S3680x1, .f32⟩
  | .hbm, ⟨16, _⟩ => ⟨S460x8x8192, .fp8e4m3⟩
  | .hbm, ⟨17, _⟩ => ⟨S3680x1, .f32⟩
  | .local _ .vmem, ⟨0, _⟩ => ⟨S20x8x2048, .fp8e4m3⟩
  | .local _ .vmem, ⟨1, _⟩ => ⟨S20x8x2048, .fp8e4m3⟩
  | .local _ .vmem, ⟨2, _⟩ => ⟨S160x1, .f32⟩
  | .local _ .vmem, ⟨3, _⟩ => ⟨S160x1, .f32⟩
  | .local _ .vmem, ⟨4, _⟩ => ⟨S160x2048, .f32⟩
  | .local _ .vmem, ⟨5, _⟩ => ⟨S160x2048, .f32⟩
  | .local _ .vmem, ⟨6, _⟩ => ⟨S2048x2048, .fp8e4m3⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x8192, .fp8e4m3⟩
  | .local _ .vmem, ⟨11, _⟩ => ⟨S1x8192, .f32⟩
  | .local _ .vmem, ⟨12, _⟩ => ⟨S1x8192, .f32⟩
  | .local _ .vmem, ⟨13, _⟩ => ⟨S8192x2048, .fp8e4m3⟩
  | .local _ .vmem, ⟨14, _⟩ => ⟨S1x2048, .f32⟩
  | .local _ .vmem, ⟨15, _⟩ => ⟨S1x2048, .f32⟩
  | .local _ .vmem, ⟨16, _⟩ => ⟨S20x8x2048, .bf16⟩
  | .local _ .vmem, ⟨17, _⟩ => ⟨S20x8x2048, .bf16⟩
  | .local _ .vmem, ⟨18, _⟩ => ⟨S20x8x2048, .fp8e4m3⟩
  | .local _ .vmem, ⟨19, _⟩ => ⟨S20x8x2048, .fp8e4m3⟩
  | .local _ .vmem, ⟨20, _⟩ => ⟨S160x1, .f32⟩
  | .local _ .vmem, ⟨21, _⟩ => ⟨S160x1, .f32⟩
  | .local _ .vmem, ⟨22, _⟩ => ⟨S20x8x8192, .fp8e4m3⟩
  | .local _ .vmem, ⟨23, _⟩ => ⟨S20x8x8192, .fp8e4m3⟩
  | .local _ .vmem, ⟨24, _⟩ => ⟨S160x1, .f32⟩
  | .local _ .vmem, ⟨25, _⟩ => ⟨S160x1, .f32⟩
  | .local _ .vmem, ⟨26, _⟩ => ⟨S160x8192, .f32⟩
  | _, _ => ⟨S460x8x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20x8x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8192x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S20x8x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S20x8x2048 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S160x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S20x8x8192 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S160x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MlpRefIdeal.lean ====
abbrev S460x8x2048 : Shape := ⟨3, ![460, 8, 2048]⟩
abbrev S3680x1 : Shape := ⟨2, ![3680, 1]⟩
abbrev S3680x2048 : Shape := ⟨2, ![3680, 2048]⟩
abbrev S2048x2048 : Shape := ⟨2, ![2048, 2048]⟩
abbrev S1x2048 : Shape := ⟨2, ![1, 2048]⟩
abbrev S2048x8192 : Shape := ⟨2, ![2048, 8192]⟩
abbrev S1x8192 : Shape := ⟨2, ![1, 8192]⟩
abbrev S8192x2048 : Shape := ⟨2, ![8192, 2048]⟩
abbrev S460x8x8192 : Shape := ⟨3, ![460, 8, 8192]⟩
abbrev S3680 : Shape := ⟨1, ![3680]⟩
abbrev S3680x8192 : Shape := ⟨2, ![3680, 8192]⟩

abbrev nBuf : Space → Nat
  | .hbm => 18
  | .vmem => 18
  | .smem => 0
  | _ => 0

abbrev bufTy : (tb : Table) → Fin (tcTables nBuf tb) → BufTy
  | .hbm, ⟨0, _⟩ => ⟨S460x8x2048, .fp8e4m3⟩
  | .hbm, ⟨1, _⟩ => ⟨S3680x1, .f32⟩
  | .hbm, ⟨2, _⟩ => ⟨S3680x2048, .f32⟩
  | .hbm, ⟨3, _⟩ => ⟨S2048x2048, .fp8e4m3⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x8192, .fp8e4m3⟩
  | .hbm, ⟨8, _⟩ => ⟨S1x8192, .f32⟩
  | .hbm, ⟨9, _⟩ => ⟨S1x8192, .f32⟩
  | .hbm, ⟨10, _⟩ => ⟨S8192x2048, .fp8e4m3⟩
  | .hbm, ⟨11, _⟩ => ⟨S1x2048, .f32⟩
  | .hbm, ⟨12, _⟩ => ⟨S1x2048, .f32⟩
  | .hbm, ⟨13, _⟩ => ⟨S460x8x2048, .bf16⟩
  | .hbm, ⟨14, _⟩ => ⟨S460x8x2048, .fp8e4m3⟩
  | .hbm, ⟨15, _⟩ => ⟨S3680x1, .f32⟩
  | .hbm, ⟨16, _⟩ => ⟨S460x8x8192, .fp8e4m3⟩
  | .hbm, ⟨17, _⟩ => ⟨S3680x1, .f32⟩
  | .local _ .vmem, ⟨0, _⟩ => ⟨S460x8x2048, .fp8e4m3⟩
  | .local _ .vmem, ⟨1, _⟩ => ⟨S3680x1, .f32⟩
  | .local _ .vmem, ⟨2, _⟩ => ⟨S3680x2048, .f32⟩
  | .local _ .vmem, ⟨3, _⟩ => ⟨S2048x2048, .fp8e4m3⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x8192, .fp8e4m3⟩
  | .local _ .vmem, ⟨8, _⟩ => ⟨S1x8192, .f32⟩
  | .local _ .vmem, ⟨9, _⟩ => ⟨S1x8192, .f32⟩
  | .local _ .vmem, ⟨10, _⟩ => ⟨S8192x2048, .fp8e4m3⟩
  | .local _ .vmem, ⟨11, _⟩ => ⟨S1x2048, .f32⟩
  | .local _ .vmem, ⟨12, _⟩ => ⟨S1x2048, .f32⟩
  | .local _ .vmem, ⟨13, _⟩ => ⟨S460x8x2048, .bf16⟩
  | .local _ .vmem, ⟨14, _⟩ => ⟨S460x8x2048, .fp8e4m3⟩
  | .local _ .vmem, ⟨15, _⟩ => ⟨S3680x1, .f32⟩
  | .local _ .vmem, ⟨16, _⟩ => ⟨S460x8x8192, .fp8e4m3⟩
  | .local _ .vmem, ⟨17, _⟩ => ⟨S3680x1, .f32⟩
  | _, _ => ⟨S460x8x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S460x8x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3680x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S460x8x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S460x8x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3680x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S460x8x8192 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3680x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Rows.lean ====
/-
  The mathematics of one row, on the extended reals: layer normalisation, the row's largest magnitude, the scale and
  the codes of the float8 quantiser, and the exact GELU, as the reference writes them, with the forms in which the
  kernel writes the same functions.

  The kernel multiplies by a reciprocal where the reference divides.  On the extended reals `x * (1 / s)` and `x / s`
  agree as soon as `s ≠ 0`, so the two facts to prove are that a quantisation scale is never zero and that the root
  under a layer norm is never zero.
-/
module

public import Idealize.ShloMosaic.Lib.Pointwise

@[expose] public section

noncomputable section

namespace Rows

open Idealize.ShloMosaic

/-! ## Literals -/

theorem lit_bot : Ideal.ofBits FTy.f32 0xFF800000#32 = ⊥ := by simp [Ideal.ofBits, Ideal.ieee]

theorem lit_half : Ideal.ofBits FTy.f32 0x3F000000#32 = ((1 / 2 : ℝ) : EReal) := by
  simp [Ideal.ofBits, Ideal.ieee, -EReal.coe_mul]; norm_num

theorem lit_two : Ideal.ofBits FTy.f32 0x40000000#32 = ((2 : ℝ) : EReal) := by
  simp [Ideal.ofBits, Ideal.ieee, -EReal.coe_mul]; norm_num

theorem lit_448 : Ideal.ofBits FTy.f32 0x43E00000#32 = ((448 : ℝ) : EReal) := by
  simp [Ideal.ofBits, Ideal.ieee, -EReal.coe_mul]; norm_num

theorem lit_2048 : Ideal.ofBits FTy.f32 0x45000000#32 = ((2048 : ℝ) : EReal) := by
  simp [Ideal.ofBits, Ideal.ieee, -EReal.coe_mul]; norm_num

/-- The constant added to a variance is a positive number. -/
theorem lit_eps_pos : (0 : EReal) < Ideal.ofBits FTy.f32 0x3727C5AC#32 := by
  simp [Ideal.ofBits, Ideal.ieee, -EReal.coe_mul]

/-! ## Division and multiplication by the reciprocal -/

/-- Multiplying by the quotient `1 / s` is dividing by `s`, when `s` is not zero. -/
theorem mul_recip {s : EReal} (h : s ≠ 0) (x : EReal) : x * Ideal.div 1 s = Ideal.div x s := by
  unfold Ideal.div; rw [if_neg h, if_neg h, one_mul]

/-! ## Layer normalisation -/

/-- The mean of a row of 2048 entries. -/
def mean (v : Fin 2048 → EReal) : EReal := Ideal.div (∑ x, v x) (Ideal.ofBits FTy.f32 0x45000000#32)

/-- The root of variance plus epsilon. -/
def root (v : Fin 2048 → EReal) : EReal :=
  Ideal.sqrt (mean (fun x => (v x - mean v) * (v x - mean v)) + Ideal.ofBits FTy.f32 0x3727C5AC#32)

/-- Layer normalisation of a row `v` with gain `g` and shift `b`. -/
def layerNorm (v g b : Fin 2048 → EReal) (c : Fin 2048) : EReal :=
  Ideal.div (v c - mean v) (root v) * g c + b c

theorem mul_self_nonneg (x : EReal) : 0 ≤ x * x := by
  rcases le_total 0 x with h | h
  · exact mul_nonneg h h
  · rw [← neg_mul_neg]; exact mul_nonneg (EReal.neg_nonneg.mpr h) (EReal.neg_nonneg.mpr h)

theorem mean_nonneg {v : Fin 2048 → EReal} (h : ∀ x, 0 ≤ v x) : 0 ≤ mean v := by
  unfold mean
  rw [lit_2048, Ideal.div_coe (by norm_num)]
  exact mul_nonneg (Finset.sum_nonneg fun x _ => h x) (by exact_mod_cast (by norm_num : (0 : ℝ) ≤ 1 / 2048))

theorem sqrt_ne_zero {x : EReal} (h : 0 < x) : Ideal.sqrt x ≠ 0 := by
  induction x using EReal.rec with
  | bot => simp at h
  | top => rw [show Ideal.sqrt ⊤ = ⊤ from rfl]; exact EReal.top_ne_zero
  | coe r =>
    have hr : 0 < r := by exact_mod_cast h
    rw [show Ideal.sqrt (r : EReal) = if r < 0 then ⊥ else ((Real.sqrt r : ℝ) : EReal) from rfl,
      if_neg (not_lt.mpr hr.le)]
    exact_mod_cast (Real.sqrt_pos.mpr hr).ne'

/-- The root under a layer norm is never zero: a mean of squares is at least zero, and epsilon is positive. -/
theorem root_ne_zero (v : Fin 2048 → EReal) : root v ≠ 0 := by
  refine sqrt_ne_zero (lt_of_lt_of_le lit_eps_pos ?_)
  exact le_add_of_nonneg_left (mean_nonneg fun x => mul_self_nonneg _)

/-- The kernel's layer norm, which multiplies by the reciprocal of the root. -/
theorem layerNorm_recip (v g b : Fin 2048 → EReal) (c : Fin 2048) :
    (v c - mean v) * Ideal.div 1 (root v) * g c + b c = layerNorm v g b c := by
  rw [mul_recip (root_ne_zero v)]; rfl

/-! ## The quantiser -/

/-- The largest magnitude of a row. -/
def amax {n : ℕ} (v : Fin n → EReal) : EReal := Finset.univ.sup fun x => max (v x) (-(v x))

theorem amax_eq_fold {n : ℕ} (v : Fin n → EReal) :
    Finset.fold max (Ideal.ofBits FTy.f32 0xFF800000#32) (fun x => max (v x) (-(v x))) Finset.univ = amax v := by
  rw [lit_bot]; rfl

/-- The scale of a row whose largest magnitude is `a`: `a / 448`, or one for a row of zeros. -/
def scale (a : EReal) : EReal := if a = 0 then 1 else Ideal.div a (Ideal.ofBits FTy.f32 0x43E00000#32)

theorem scale_ne_zero (a : EReal) : scale a ≠ 0 := by
  unfold scale
  split
  · exact one_ne_zero
  · next h =>
    rw [lit_448, Ideal.div_coe (by norm_num)]
    have h2 : (((1 / 448 : ℝ)) : EReal) ≠ 0 := by exact_mod_cast (by norm_num : (1 / 448 : ℝ) ≠ 0)
    exact mul_ne_zero h h2

/-- The code of an entry `x` under the scale `s`: the quotient, clipped at ±448. -/
def code (x s : EReal) : EReal :=
  min (Ideal.ofBits FTy.f32 0x43E00000#32) (max (Ideal.ofBits FTy.f32 0xC3E00000#32) (Ideal.div x s))

/-- The kernel's code, which multiplies by the reciprocal of the scale. -/
theorem code_recip (x a : EReal) :
    min (Ideal.ofBits FTy.f32 0x43E00000#32)
      (max (Ideal.ofBits FTy.f32 0xC3E00000#32) (x * Ideal.div 1 (scale a))) = code x (scale a) := by
  rw [mul_recip (scale_ne_zero a)]; rfl

/-! ## The largest magnitude, gathered by groups of 128 lanes -/

/-- The magnitude of an entry. -/
def mag (x : EReal) : EReal := max x (-x)

theorem mag_nonneg (x : EReal) : 0 ≤ mag x := by
  rcases le_total 0 x with h | h
  · exact le_max_of_le_left h
  · exact le_max_of_le_right (EReal.neg_nonneg.mpr h)

theorem mag_of_nonneg {x : EReal} (h : 0 ≤ x) : mag x = x :=
  max_eq_left (le_trans (EReal.neg_le_zero.mpr h) h)

/-- The largest magnitude at lane `l` over the eight groups of 128 lanes of a row of 1024 entries. -/
def lanes (f : Fin 1024 → EReal) (l : Fin 128) : EReal :=
  Finset.univ.sup fun j : Fin 8 => mag (f ⟨128 * j + l, by omega⟩)

/-- The kernel's chain of eight maxima, onto what the lane held. -/
theorem chain_eq (f : Fin 1024 → EReal) (l : Fin 128) (t : EReal) :
    max (max (max (max (max (max (max (max t (mag (f ⟨l, by omega⟩))) (mag (f ⟨128 + l, by omega⟩)))
      (mag (f ⟨256 + l, by omega⟩))) (mag (f ⟨384 + l, by omega⟩))) (mag (f ⟨512 + l, by omega⟩)))
      (mag (f ⟨640 + l, by omega⟩))) (mag (f ⟨768 + l, by omega⟩))) (mag (f ⟨896 + l, by omega⟩))
    = max t (lanes f l) := by
  refine eq_of_forall_ge_iff fun z => ?_
  simp only [max_le_iff, lanes, Finset.sup_le_iff, Finset.mem_univ, true_imp_iff, and_assoc]
  refine and_congr_right fun _ => ⟨?_, fun h => ?_⟩
  · rintro ⟨h0, h1, h2, h3, h4, h5, h6, h7⟩ j
    fin_cases j
    · simpa using h0
    all_goals first | simpa using h1 | simpa using h2 | simpa using h3 | simpa using h4 | simpa using h5 | simpa using h6
                    | simpa using h7
  · exact ⟨by simpa using h 0, by simpa using h 1, by simpa using h 2, by simpa using h 3, by simpa using h 4,
      by simpa using h 5, by simpa using h 6, by simpa using h 7⟩

/-- Over all the lanes of the eight parts of 1024 entries, from zero: the largest magnitude of the row of 8192. -/
theorem lanes_amax (H : Fin 8192 → EReal) (T : Fin 128 → EReal)
    (hT : ∀ l z, T l ≤ z ↔ 0 ≤ z ∧ ∀ k : Fin 8, lanes (fun x => H ⟨1024 * k + x, by omega⟩) l ≤ z) :
    Finset.fold max (Ideal.ofBits FTy.f32 0xFF800000#32) (fun l => mag (T l)) Finset.univ = amax H := by
  have h0 : ∀ l, 0 ≤ T l := fun l => ((hT l (T l)).mp le_rfl).1
  rw [lit_bot]
  show (Finset.univ.sup fun l => mag (T l)) = amax H
  simp only [fun l => mag_of_nonneg (h0 l)]
  refine eq_of_forall_ge_iff fun z => ?_
  unfold amax
  simp only [Finset.sup_le_iff, Finset.mem_univ, true_imp_iff, hT, lanes]
  constructor
  · intro h c
    have := (h ⟨c % 128, by omega⟩).2 ⟨c / 1024, by omega⟩ ⟨c % 1024 / 128, by omega⟩
    have e : (⟨1024 * (c / 1024) + (128 * (c % 1024 / 128) + c % 128), by omega⟩ : Fin 8192) = c :=
      Fin.ext (by show 1024 * ((c : ℕ) / 1024) + (128 * ((c : ℕ) % 1024 / 128) + (c : ℕ) % 128) = c; omega)
    rwa [e] at this
  · intro h l
    exact ⟨le_trans (mag_nonneg (H 0)) (h 0), fun k j => h _⟩

/-! ## A scaled product -/

/-- Entry `c` of a row of codes `q` with scale `s`, times a matrix of codes `w` with one scale per column. -/
def mm {n k : ℕ} (q : Fin n → EReal) (s : EReal) (w : Fin n → Fin k → EReal) (ws : Fin k → EReal) (c : Fin k) : EReal :=
  (∑ x, q x * w x c) * s * ws c

/-! ## GELU -/

/-- The exact GELU, `x (erf (x / √2) + 1) / 2`. -/
def gelu (x : EReal) : EReal :=
  Ideal.div (x * (Ideal.erf (x * Ideal.ofBits FTy.f32 0x3F3504F3#32) + 1)) (Ideal.ofBits FTy.f32 0x40000000#32)

/-- The kernel's GELU, `(x / 2) (1 + erf (x / √2))`. -/
theorem gelu_half (x : EReal) :
    Ideal.ofBits FTy.f32 0x3F000000#32 * x * (1 + Ideal.erf (x * Ideal.ofBits FTy.f32 0x3F3504F3#32)) = gelu x := by
  unfold gelu
  rw [lit_two, Ideal.div_coe (by norm_num), lit_half, add_comm (1 : EReal), mul_assoc, mul_comm]

end Rows
-- ==== Proof.Quant.lean ====
/-
  A row `u` quantised to float8 codes with one scale, and its codes multiplied by a matrix of codes: what the layer does with
  every row it normalises.
-/
module

public import proofs.«01_k».proof.Proof.Rows

@[expose] public section

set_option maxRecDepth 16384

noncomputable section

namespace Quant

open Idealize.ShloMosaic

variable (u : Fin 2048 → EReal)

/-- The scale of the row. -/
def scale : EReal := Rows.scale (Rows.amax u)

/-- The codes of the row. -/
def code (c : Fin 2048) : EReal := Rows.code (u c) (scale u)

/-- The row of the product with the codes `w`, one scale `ws` per column. -/
def proj {k : ℕ} (w : Fin 2048 → Fin k → EReal) (ws : Fin k → EReal) (c : Fin k) : EReal := Rows.mm (code u) (scale u) w ws c

end Quant
-- ==== Proof.Ln1Block.lean ====
/-
  What one grid point of the first call leaves: 160 tokens, the product computed in six pieces of 1024 columns.
-/
module

public import proofs.«01_k».proof.Proof.Quant
public import proofs.«01_k».proof.Proof.Gen.Ln1Ideal.Frame

@[expose] public section

set_option maxRecDepth 16384

noncomputable section

namespace Ln1Block

open Idealize.ShloMosaic Cert.Ln1Ideal Cert.Ln1Ideal.Gen

theorem h2 : (![0, 0] : Fin 2 → Nat) = fun _ => 0 := funext fun a => by fin_cases a <;> rfl
theorem h3 : (![0, 0, 0] : Fin 3 → Nat) = fun _ => 0 := funext fun a => by fin_cases a <;> rfl

variable (x0 : Vec Ideal S20x8x2048 .bf16) (x1 x2 : Vec Ideal S1x2048 .f32) (x3 : Vec Ideal S2048x6144 .fp8e4m3)
  (x4 : Vec Ideal S1x6144 .f32)

/-- The layer norm of token `r` of the block. -/
def normed (r : Fin 160) (c : Fin 2048) : EReal :=
  Rows.layerNorm (fun x => x0 (ix3 ⟨r / 8, by omega⟩ ⟨r % 8, by omega⟩ x)) (fun x => x1 (ix2 0 x)) (fun x => x2 (ix2 0 x)) c

theorem pay2_apply (r : Fin 160) (c : Fin 2048) : k0_pay2 x0 x1 x2 (ix2 r c) = normed x0 x1 x2 r c := by
  pointwise [k0_pay2]
  exact Rows.layerNorm_recip (fun x => x0 (ix3 ⟨r / 8, by omega⟩ ⟨r % 8, by omega⟩ x)) (fun x => x1 (ix2 0 x))
    (fun x => x2 (ix2 0 x)) c

theorem pay3_apply (r : Fin 160) : k0_pay3 x0 x1 x2 (ix2 r 0) = Quant.scale (normed x0 x1 x2 r) := by
  pointwise [k0_pay3]
  simp only [pay2_apply]
  exact congrArg Rows.scale (Rows.amax_eq_fold _)

theorem pay5_apply (r : Fin 160) (c : Fin 2048) : k0_pay5 (k0_pay2 x0 x1 x2) (k0_pay3 x0 x1 x2) (k0_pay4 (F := Ideal)) (ix2 r c)
    = Quant.code (normed x0 x1 x2 r) c := by
  pointwise [k0_pay5, k0_pay4]
  rw [pay2_apply, pay3_apply]
  exact Rows.code_recip _ _

/-- The scales. -/
theorem out6_apply (r : Fin 160) : out0_6 x0 x1 x2 x3 x4 (ix2 r 0) = Quant.scale (normed x0 x1 x2 r) := by
  unfold out0_6
  rw [View.canon_unit_zero (S := S160x1) h2]
  simp only [View.ld_unit_zero (S := S20x8x2048) h3, View.ld_unit_zero (S := S1x2048) h2]
  exact pay3_apply x0 x1 x2 r

/-- The codes. -/
theorem out5_apply (p : Fin 20) (s : Fin 8) (c : Fin 2048) : out0_5 x0 x1 x2 x3 x4 (ix3 p s c)
    = Quant.code (normed x0 x1 x2 ⟨p * 8 + s, by omega⟩) c := by
  unfold out0_5 k0_pay15 k0_pay16 k0_pay17
  rw [View.canon_unit_zero (S := S20x8x2048) h3]
  simp only [View.ld_unit_zero (S := S20x8x2048) h3, View.ld_unit_zero (S := S1x2048) h2]
  pointwise [k0_pay6]
  exact pay5_apply x0 x1 x2 _ c

/-- The product, as an array of the block. -/
def outV : Vec Ideal S20x8x6144 .bf16 := fun i =>
  Quant.proj (normed x0 x1 x2 ⟨i 0 * 8 + i 1, by have h0 : (i 0).val < 20 := (i 0).isLt; have h1 : (i 1).val < 8 := (i 1).isLt; omega⟩)
    (fun x c => x3 (ix2 x c)) (fun c => x4 (ix2 0 c)) (i 2)

/-- A piece of 1024 columns lies in the block at its offset. -/
theorem outV_part (o : ℕ) (h : ∀ a, (![0, 0, o] : Fin 3 → ℕ) a + (![20, 8, 1024] : Fin 3 → ℕ) a ≤ S20x8x6144.size a)
    (j0 : Fin 20) (j1 : Fin 8) (j2 : Fin 1024) (q : Fin 6144) (hq : (q : ℕ) = o + j2) :
    outV x0 x1 x2 x3 x4 (ix3 j0 j1 q)
    = outV x0 x1 x2 x3 x4 ((Rect.unit (s := S20x8x6144) ![0, 0, o] ![20, 8, 1024] h).emb (ix3 j0 j1 j2)) := by
  refine congrArg (outV x0 x1 x2 x3 x4) (funext fun a => Fin.ext ?_)
  rw [Rect.emb_apply]
  fin_cases a <;> simp [ix3, hq]

/-- The product. -/
theorem out7_apply : out0_7 x0 x1 x2 x3 x4 = outV x0 x1 x2 x3 x4 := by
  unfold out0_7 k0_pay18 k0_pay15 k0_pay16 k0_pay17
  simp only [View.ld_unit_zero (S := S20x8x2048) h3, View.ld_unit_zero (S := S1x2048) h2]
  refine funext fun y => View.canon_apply_of_pieces (outV x0 x1 x2 x3 x4) _ ?_ y ?_
  swap
  · exact cover0_7 _ _ _ _ _ _ y
  intro q hq
  simp only [List.mem_cons, List.not_mem_nil, or_false] at hq
  rcases hq with rfl | rfl | rfl | rfl | rfl | rfl
  all_goals
    intro j
    idx_vars j
    pointwise [k0_pay1, k0_pay8, k0_pay9, k0_pay10, k0_pay11, k0_pay12, k0_pay13, k0_pay14, k0_pay7, dot_S160x2048_S2048x1024_S160x1024_1_0_0_1_n_n]
    simp only [pay5_apply, pay3_apply]
  · exact outV_part x0 x1 x2 x3 x4 5120 _ j0 j1 j2 _ rfl
  · exact outV_part x0 x1 x2 x3 x4 4096 _ j0 j1 j2 _ rfl
  · exact outV_part x0 x1 x2 x3 x4 3072 _ j0 j1 j2 _ rfl
  · exact outV_part x0 x1 x2 x3 x4 2048 _ j0 j1 j2 _ rfl
  · exact outV_part x0 x1 x2 x3 x4 1024 _ j0 j1 j2 _ rfl
  · exact outV_part x0 x1 x2 x3 x4 0 _ j0 j1 j2 _ (Nat.zero_add _).symm

end Ln1Block
-- ==== Proof.Ln1Ref.lean ====
/-
  The three results of the first call's reference read at an index: codes, scale and product of the layer norm of one row.
-/
module

public import proofs.«01_k».proof.Proof.Quant
public import proofs.«01_k».proof.Proof.Gen.Ln1RefIdeal.Value

@[expose] public section

set_option maxRecDepth 16384

noncomputable section

namespace Ln1Ref

open Idealize.ShloMosaic Cert.Ln1RefIdeal Cert.Ln1RefIdeal.Gen

/-! ## The reference's steps on any arrays -/

section
variable (N : FVec Ideal S460x8x2048 .f32) (S : FVec Ideal S460x8x1 .f32) (p : Fin 460) (s : Fin 8)

/-- The largest magnitudes. -/
theorem amax_step : (shapeCast S460x8x1 (multiReduction .maximumf [2] S460x8 (absf N) 0xFF800000#32
      reduces_S460x8x2048_S460x8 (.inl rfl) rfl : FVec Ideal S460x8 .f32) shapeCasts_S460x8_S460x8x1 : FVec Ideal S460x8x1 .f32) (ix3 p s 0)
    = Rows.amax fun x => N (ix3 p s x) := by
  pointwise
  exact Rows.amax_eq_fold fun x => N (ix3 p s x)

/-- The scale step. -/
theorem scale_step : select (cmpf .oeq S (broadcast S460x8x1 (Scalar.ofBits .f32 0x00000000#32)))
    (broadcast S460x8x1 (Scalar.ofBits .f32 0x3F800000#32))
    (divf S (broadcast S460x8x1 (Scalar.ofBits .f32 0x43E00000#32))) (ix3 p s 0)
    = Rows.scale (S (ix3 p s 0)) := by
  pointwise
  rfl

/-- The code step. -/
theorem code_step (c : Fin 2048) : minimumf (broadcast S460x8x2048 (Scalar.ofBits .f32 0x43E00000#32))
    (maximumf (broadcast S460x8x2048 (Scalar.ofBits .f32 0xC3E00000#32))
      (divf N (broadcastTo S460x8x2048 S broadcasts_S460x8x1_S460x8x2048))) (ix3 p s c)
    = Rows.code (N (ix3 p s c)) (S (ix3 p s 0)) := by
  pointwise
  rfl

/-- The product step. -/
theorem product_step (w : Vec Ideal S2048x6144 .fp8e4m3) (ws : Vec Ideal S1x6144 .f32) (c : Fin 6144) : k0_pay2 S N w ws (ix3 p s c)
    = Rows.mm (fun x => N (ix3 p s x)) (S (ix3 p s 0)) (fun x c => w (ix2 x c)) (fun c => ws (ix2 0 c)) c := by
  pointwise [k0_pay2, dot_S460x8x2048_S2048x6144_S460x8x6144_2_0_01_1_n_n]
  rfl

end

variable (a0 : Vec Ideal S460x8x2048 .bf16) (a1 a2 : Vec Ideal S1x2048 .f32) (a3 : Vec Ideal S2048x6144 .fp8e4m3)
  (a4 : Vec Ideal S1x6144 .f32)

variable (p : Fin 460) (s : Fin 8)

/-- The layer norm of one token. -/
def normed (c : Fin 2048) : EReal :=
  Rows.layerNorm (fun x => a0 (ix3 p s x)) (fun x => a1 (ix2 0 x)) (fun x => a2 (ix2 0 x)) c

theorem pay3_apply (c : Fin 2048) : k0_pay3 a0 a1 a2 (ix3 p s c) = normed a0 a1 a2 p s c := by
  pointwise [k0_pay3]
  rfl

theorem pay4_apply : k0_pay4 a0 a1 a2 (ix3 p s 0) = Quant.scale (normed a0 a1 a2 p s) := by
  unfold k0_pay4
  refine (scale_step _ p s).trans (congrArg Rows.scale ((amax_step (k0_pay3 a0 a1 a2) p s).trans ?_))
  exact congrArg Rows.amax (funext fun x => pay3_apply a0 a1 a2 p s x)

theorem pay5_apply (c : Fin 2048) : k0_pay5 a0 a1 a2 (ix3 p s c) = Quant.code (normed a0 a1 a2 p s) c := by
  unfold k0_pay5
  exact (code_step (k0_pay3 a0 a1 a2) (k0_pay4 a0 a1 a2) p s c).trans
    (congrArg₂ Rows.code (pay3_apply a0 a1 a2 p s c) (pay4_apply a0 a1 a2 p s))

/-- The codes. -/
theorem G5_apply (c : Fin 2048) : Value.G5 a0 a1 a2 a3 a4 (ix3 p s c) = Quant.code (normed a0 a1 a2 p s) c :=
  pay5_apply a0 a1 a2 p s c

theorem h2 : (![0, 0] : Fin 2 → Nat) = fun _ => 0 := funext fun a => by fin_cases a <;> rfl
theorem h3 : (![0, 0, 0] : Fin 3 → Nat) = fun _ => 0 := funext fun a => by fin_cases a <;> rfl

theorem pay7_eq : k0_pay7 a0 a1 a2 a3 a4 = k0_pay4 a0 a1 a2 := by
  unfold k0_pay7
  rw [View.ld_unit_zero (S := S460x8x2048) h3, View.ld_unit_zero (S := S1x2048) h2, View.ld_unit_zero (S := S1x2048) h2]

/-- The product. -/
theorem G7_apply (c : Fin 6144) : Value.G7 a0 a1 a2 a3 a4 (ix3 p s c)
    = Quant.proj (normed a0 a1 a2 p s) (fun x c => a3 (ix2 x c)) (fun c => a4 (ix2 0 c)) c := by
  unfold Value.G7
  rw [pay7_eq]
  refine (product_step (k0_pay5 a0 a1 a2) (k0_pay4 a0 a1 a2) p s a3 a4 c).trans ?_
  rw [pay4_apply, show (fun x => k0_pay5 a0 a1 a2 (ix3 p s x)) = Quant.code (normed a0 a1 a2 p s) from
    funext fun x => pay5_apply a0 a1 a2 p s x]
  rfl

/-- The scale step of the last reshape. -/
theorem flat_step (S : FVec Ideal S460x8x1 .f32) (r : Fin 3680) :
    k0_pay1 S (ix2 r 0) = S (ix3 ⟨r / 8, by omega⟩ ⟨r % 8, by omega⟩ 0) := by
  pointwise [k0_pay1]

/-- The scales. -/
theorem G6_apply (r : Fin 3680) : Value.G6 a0 a1 a2 a3 a4 (ix2 r 0)
    = Quant.scale (normed a0 a1 a2 ⟨r / 8, by omega⟩ ⟨r % 8, by omega⟩) := by
  unfold Value.G6
  rw [pay7_eq]
  exact (flat_step (k0_pay4 a0 a1 a2) r).trans (pay4_apply a0 a1 a2 _ _)

end Ln1Ref
-- ==== Proof.Ln1Run.lean ====
/-
  The first call's run, with each of its three result arrays named and its arguments unchanged.
-/
module

public import proofs.«01_k».proof.Proof.Gen.Ln1Ideal.Frame
public import Idealize.ShloMosaic.Lib.Pipeline.Value

@[expose] public section

set_option maxRecDepth 16384

noncomputable section

namespace Ln1Run

open Idealize.ShloMosaic Idealize.ShloMosaic.TcCoe Idealize.SL.Sem Cert.Ln1Ideal Cert.Ln1Ideal.Gen
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

end Ln1Run
-- ==== Proof.Ln1Array.lean ====
/-
  The first call's result arrays: grid point `t` holds the tokens 160 t … 160 t + 159, and the blocks the points write back
  cover the arrays, so each result array is the reference's function of the argument arrays.
-/
module

public import proofs.«01_k».proof.Proof.Ln1Block
public import proofs.«01_k».proof.Proof.Ln1Ref
public import proofs.«01_k».proof.Proof.Ln1Run
public import Idealize.ShloMosaic.Lib.Pipeline.ValueKit.Geometry

@[expose] public section

set_option maxRecDepth 16384

noncomputable section

namespace Ln1Array

open Idealize.ShloMosaic Idealize.ShloMosaic.TcCoe Idealize.SL.Sem Cert.Ln1Ideal Cert.Ln1Ideal.Gen

/-! ## Where the blocks lie -/

theorem at0 : ∀ t : Fin cfg0.N, win0_0.index t = ![t.val, 0, 0] := (by decide +kernel : ∀ t : Fin grid0.N, _)
theorem at5 : ∀ t : Fin cfg0.N, win0_5.index t = ![t.val, 0, 0] := (by decide +kernel : ∀ t : Fin grid0.N, _)
theorem at7 : ∀ t : Fin cfg0.N, win0_7.index t = ![t.val, 0, 0] := (by decide +kernel : ∀ t : Fin grid0.N, _)
theorem at6 : ∀ t : Fin cfg0.N, win0_6.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)

section
variable (m : (ℓ : Loc nD τ sig) → Buf (Elt Ideal) ℓ)

theorem row_lt (t : Fin cfg0.N) (p : Fin 20) : 20 * t.val + p < 460 := by
  have := (show t.val < 23 from t.isLt); omega

theorem flat_lt (t : Fin cfg0.N) (r : Fin 160) : 160 * t.val + r < 3680 := by
  have := (show t.val < 23 from t.isLt); omega

/-! ## The blocks a point is given -/

theorem whole1 (c : Dev nD) (t : Fin cfg0.N) : iblk m c 1 t = m ((c : Thread nD τ).loc main_arg1) := by
  funext y
  blk_simp [iblk]
  show m ((c : Thread nD τ).loc main_arg1) _ = m ((c : Thread nD τ).loc main_arg1) _
  refine congrArg _ ?_
  blk_ext [at1]

theorem whole2 (c : Dev nD) (t : Fin cfg0.N) : iblk m c 2 t = m ((c : Thread nD τ).loc main_arg2) := by
  funext y
  blk_simp [iblk]
  show m ((c : Thread nD τ).loc main_arg2) _ = m ((c : Thread nD τ).loc main_arg2) _
  refine congrArg _ ?_
  blk_ext [at2]

theorem whole3 (c : Dev nD) (t : Fin cfg0.N) : iblk m c 3 t = m ((c : Thread nD τ).loc main_arg3) := by
  funext y
  blk_simp [iblk]
  show m ((c : Thread nD τ).loc main_arg3) _ = m ((c : Thread nD τ).loc main_arg3) _
  refine congrArg _ ?_
  blk_ext [at3]

theorem whole4 (c : Dev nD) (t : Fin cfg0.N) : iblk m c 4 t = m ((c : Thread nD τ).loc main_arg4) := by
  funext y
  blk_simp [iblk]
  show m ((c : Thread nD τ).loc main_arg4) _ = m ((c : Thread nD τ).loc main_arg4) _
  refine congrArg _ ?_
  blk_ext [at4]

/-- Token `r` of the block of point `t` is token `160 t + r` of the array. -/
theorem normed_eq (c : Dev nD) (t : Fin cfg0.N) (r : Fin 160) (p : Fin 460) (s : Fin 8) (hq : (p : ℕ) * 8 + s = 160 * t + r) :
    Ln1Block.normed (iblk m c 0 t) (iblk m c 1 t) (iblk m c 2 t) r
    = Ln1Ref.normed (m ((c : Thread nD τ).loc main_arg0)) (m ((c : Thread nD τ).loc main_arg1)) (m ((c : Thread nD τ).loc main_arg2)) p s := by
  have e0 : ∀ x, (iblk m c 0 t : Vec Ideal S20x8x2048 .bf16) (ix3 ⟨r / 8, by omega⟩ ⟨r % 8, by omega⟩ x)
      = (m ((c : Thread nD τ).loc main_arg0) : Vec Ideal S460x8x2048 .bf16) (ix3 p s x) := by
    intro x
    blk_simp [iblk]
    show m ((c : Thread nD τ).loc main_arg0) _ = m ((c : Thread nD τ).loc main_arg0) _
    refine congrArg _ ?_
    blk_ext [at0]
  rw [whole1, whole2]
  unfold Ln1Block.normed Ln1Ref.normed
  simp only [e0]

/-- The codes. -/
theorem final5 (c : Dev nD) : (dats m 0 c).arrAt 5 cfg0.N = Cert.Ln1RefIdeal.Value.G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf => ?_
  show ∀ y : S20x8x2048.Idx, _
  intro y
  idx_vars y
  blk_simp
  rw [after0_5]
  have he : (win0_5.blk t).view.emb (ix3 y0 y1 y2 : S20x8x2048.Idx) = ix3 ⟨20 * t.val + y0, row_lt t y0⟩ y1 y2 := by
    blk_ext [at5]
  rw [he, Ln1Ref.G5_apply, ← normed_eq m c t ⟨y0 * 8 + y1, by omega⟩ _ _ (by show (20 * t.val + y0) * 8 + y1 = 160 * t.val + (y0 * 8 + y1); omega)]
  exact Ln1Block.out5_apply ..

/-- The scales. -/
theorem final6 (c : Dev nD) : (dats m 0 c).arrAt 6 cfg0.N = Cert.Ln1RefIdeal.Value.G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf => ?_
  show ∀ y : S160x1.Idx, _
  intro y
  idx_vars y
  obtain rfl : y1 = 0 := Subsingleton.elim _ _
  blk_simp
  rw [after0_6]
  have he : (win0_6.blk t).view.emb (ix2 y0 0 : S160x1.Idx) = ix2 ⟨160 * t.val + y0, flat_lt t y0⟩ 0 := by
    blk_ext [at6]
  rw [he, Ln1Ref.G6_apply, ← normed_eq m c t y0 _ _ (by show (160 * t.val + y0) / 8 * 8 + (160 * t.val + y0) % 8 = 160 * t.val + y0; omega)]
  exact Ln1Block.out6_apply ..

/-- The product. -/
theorem final7 (c : Dev nD) : (dats m 0 c).arrAt 7 cfg0.N = Cert.Ln1RefIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf => ?_
  show ∀ y : S20x8x6144.Idx, _
  intro y
  idx_vars y
  blk_simp
  rw [after0_7]
  have he : (win0_7.blk t).view.emb (ix3 y0 y1 y2 : S20x8x6144.Idx) = ix3 ⟨20 * t.val + y0, row_lt t y0⟩ y1 y2 := by
    blk_ext [at7]
  rw [he, Ln1Ref.G7_apply, ← normed_eq m c t ⟨y0 * 8 + y1, by omega⟩ _ _ (by show (20 * t.val + y0) * 8 + y1 = 160 * t.val + (y0 * 8 + y1); omega)]
  refine (congrFun (Ln1Block.out7_apply ..) _).trans ?_
  rw [whole3, whole4]
  rfl

end
end Ln1Array
-- ==== Proof.Ln1Eq.lean ====
/-
  The first call and its reference, run from memories that agree on the arguments, end with equal results.
-/
module

public import proofs.«01_k».proof.Defs
public import proofs.«01_k».proof.Proof.Ln1Array

@[expose] public section

set_option maxRecDepth 16384

noncomputable section

namespace Ln1Eq

open Idealize.ShloMosaic Idealize.ShloMosaic.TcCoe Idealize.SL.Sem Cert.Ln1Ideal Cert.Ln1Ideal.Gen

theorem algebraic : Cert.algebraic_Ln1Ideal_Ln1RefIdeal (hLn1Ideal := Cert.Ln1Ideal.Gen.facts)
    (hLn1RefIdeal := Cert.Ln1RefIdeal.Gen.facts) := by
  intro m g m' g' _ hm
  refine ⟨fun c => (dats m 0 c).arrAt 5 cfg0.N, fun c => (dats m 0 c).arrAt 6 cfg0.N,
    fun c => (dats m 0 c).arrAt 7 cfg0.N, Ln1Run.run_blocks m g,
    (θ_run Cert.Ln1RefIdeal.defs _ _).mono (fun r h c => ?_) (Cert.Ln1RefIdeal.Value.run m' g')⟩
  obtain ⟨r5, r6, r7, kept⟩ := h c
  obtain ⟨h0, h1, h2, h3, h4⟩ := hm c
  rw [h0, h1, h2, h3, h4] at r5 r6 r7
  exact ⟨r5.trans (Ln1Array.final5 m c).symm, r6.trans (Ln1Array.final6 m c).symm,
    r7.trans (Ln1Array.final7 m c).symm, kept⟩

end Ln1Eq
-- ==== Proof.Heads.lean ====
/-
  A head's 128 entries quantised to eight-bit integer codes with one scale, as the layer does with every key and value.
-/
module

public import proofs.«01_k».proof.Proof.Quant

@[expose] public section

set_option maxRecDepth 16384

noncomputable section

namespace Heads

open Idealize.ShloMosaic

theorem lit_127 : Ideal.ofBits FTy.f32 0x42FE0000#32 = ((127 : ℝ) : EReal) := by
  simp [Ideal.ofBits, Ideal.ieee, -EReal.coe_mul]; norm_num

/-- The scale of a head whose largest magnitude is `a`: `a / 127`, or one for a head of zeros. -/
def unit (a : EReal) : EReal := if a = 0 then 1 else Ideal.div a (Ideal.ofBits FTy.f32 0x42FE0000#32)

theorem unit_ne_zero (a : EReal) : unit a ≠ 0 := by
  unfold unit
  split
  · exact one_ne_zero
  · next h =>
    rw [lit_127, Ideal.div_coe (by norm_num)]
    have h2 : (((1 / 127 : ℝ)) : EReal) ≠ 0 := by exact_mod_cast (by norm_num : (1 / 127 : ℝ) ≠ 0)
    exact mul_ne_zero h h2

/-- Multiplying by the reciprocal of the scale is dividing by the scale. -/
theorem mul_recip (x a : EReal) : x * Ideal.div 1 (unit a) = Ideal.div x (unit a) := Rows.mul_recip (unit_ne_zero a) x

/-- The code of an entry `x` under the scale `s`: the quotient, rounded to the nearest integer (half to even) and clipped at ±127. -/
def code (x s : EReal) : BitVec 8 :=
  FloatOps.fptosi (F := Ideal) (φ := .f32) 8 (min (Ideal.ofBits FTy.f32 0x42FE0000#32) (max (Ideal.ofBits FTy.f32 0xC2FE0000#32)
    (Ideal.liftRound Ideal.roundHalfEven (Ideal.div x s))))

/-- The entries of head `h` in a row of 6144 entries, which are 48 heads of 128. -/
def head (q : Fin 6144 → EReal) (h : Fin 48) (l : Fin 128) : EReal := q ⟨h * 128 + l, by omega⟩

/-- The scale of head `h`. -/
def scale (q : Fin 6144 → EReal) (h : Fin 48) : EReal := unit (Rows.amax (head q h))

/-! ## A token of the second call -/

/-- What every token meets: the first product's codes and scales, gain and shift of the layer norm, the second product's
    codes and scales. -/
structure Params where
  wo : Fin 2048 → Fin 2048 → EReal
  so : Fin 2048 → EReal
  g : Fin 2048 → EReal
  b : Fin 2048 → EReal
  w : Fin 2048 → Fin 6144 → EReal
  ws : Fin 6144 → EReal

/-- A token: the attention's codes and scale, its row of the stream, its frame's action row. -/
structure Token where
  a : Fin 2048 → EReal
  s : EReal
  x : Fin 2048 → EReal
  act : Fin 2048 → EReal

variable (P : Params) (t : Token)

/-- The row after the attention. -/
def resid (c : Fin 2048) : EReal := t.x c + Rows.mm t.a t.s P.wo P.so c

/-- Its layer norm with the action row added. -/
def input (c : Fin 2048) : EReal := Rows.layerNorm (resid P t) P.g P.b c + t.act c

/-- Queries, keys and values of the token. -/
def qkv (c : Fin 6144) : EReal := Quant.proj (input P t) P.w P.ws c

end Heads
-- ==== Proof.QkvTBlock.lean ====
/-
  The second call's steps on one block of 184 tokens: the heads' scales and codes, the table of scales it keeps (one lane per
  head of keys or values), and the rows from the residual stream to the projected row.
-/
module

public import proofs.«01_k».proof.Proof.Heads
public import proofs.«01_k».proof.Proof.Gen.QkvTIdeal.Skeleton
public import Idealize.ShloMosaic.Lib.Pipeline.Value
public import Idealize.ShloMosaic.Lib.Pipeline.ValueKit.Tiles

@[expose] public section

set_option maxRecDepth 16384

noncomputable section

namespace QkvTBlock

open Idealize.ShloMosaic Cert.QkvTIdeal Cert.QkvTIdeal.Gen

/-! ## One head -/

/-- The scales of a block of one head. -/
def unitV (N : FVec Ideal S184x128 .f32) : FVec Ideal S184x1 .f32 :=
  select (cmpf .oeq (shapeCast S184x1 (multiReduction .maximumf [1] S184 (absf N) 0xFF800000#32 reduces_S184x128_S184 (.inl rfl) rfl)
      shapeCasts_S184_S184x1 : FVec Ideal S184x1 .f32) (broadcast S184x1 (Scalar.ofBits .f32 0x00000000#32)))
    (broadcast S184x1 (Scalar.ofBits .f32 0x3F800000#32))
    (divf (shapeCast S184x1 (multiReduction .maximumf [1] S184 (absf N) 0xFF800000#32 reduces_S184x128_S184 (.inl rfl) rfl)
      shapeCasts_S184_S184x1 : FVec Ideal S184x1 .f32) (broadcast S184x1 (Scalar.ofBits .f32 0x42FE0000#32)))

/-- Its rounded and clipped quotients. -/
def codeV (N : FVec Ideal S184x128 .f32) : FVec Ideal S184x128 .f32 :=
  minimumf (broadcast S184x128 (Scalar.ofBits .f32 0x42FE0000#32)) (maximumf (broadcast S184x128 (Scalar.ofBits .f32 0xC2FE0000#32))
    (roundeven (mulf N (broadcastTo S184x128 (divf (broadcast S184x1 (Scalar.ofBits .f32 0x3F800000#32)) (unitV N))
      broadcasts_S184x1_S184x128))))

/-- Head `o / 128` of a block of eight. -/
def cut (o : ℕ) (h : S184x1024.Slices ![0, o] S184x128) (Q : FVec Ideal S184x1024 .f32) : FVec Ideal S184x128 .f32 :=
  extractStridedSlice S184x128 ![0, o] Q h

/-- The codes of the eight heads of a block. -/
def codes (Q : FVec Ideal S184x1024 .f32) : IVec S1x184x8x128 8 :=
  shapeCast S1x184x8x128 (fptosi 8 (shapeCast S184x8x128 (concatenate S184x1024 1
    [⟨S184x128, codeV (cut 0 slices_S184x1024_o0_0_S184x128 Q)⟩, ⟨S184x128, codeV (cut 128 slices_S184x1024_o0_128_S184x128 Q)⟩,
     ⟨S184x128, codeV (cut 256 slices_S184x1024_o0_256_S184x128 Q)⟩, ⟨S184x128, codeV (cut 384 slices_S184x1024_o0_384_S184x128 Q)⟩,
     ⟨S184x128, codeV (cut 512 slices_S184x1024_o0_512_S184x128 Q)⟩, ⟨S184x128, codeV (cut 640 slices_S184x1024_o0_640_S184x128 Q)⟩,
     ⟨S184x128, codeV (cut 768 slices_S184x1024_o0_768_S184x128 Q)⟩, ⟨S184x128, codeV (cut 896 slices_S184x1024_o0_896_S184x128 Q)⟩]
    concatenates_S184x128_S184x128_S184x128_S184x128_S184x128_S184x128_S184x128_S184x128_S184x1024_d1 : FVec Ideal S184x1024 .f32)
    shapeCasts_S184x1024_S184x8x128 : FVec Ideal S184x8x128 .f32) : IVec S184x8x128 8) shapeCasts_S184x8x128_S1x184x8x128

/-- The table of scales with lane `k` set to the scales of a head. -/
def put (k : BitVec 32) (N T : FVec Ideal S184x128 .f32) : FVec Ideal S184x128 .f32 :=
  select (cmpi .eq (iota .tc S184x128 32 [1] iota_S184x128_d1_w32) (broadcast S184x128 k))
    (broadcastTo S184x128 (shapeCast S184x1 (unitV N) shapeCasts_S184x1_S184x1) broadcasts_S184x1_S184x128) T

/-- The table with the eight lanes from `n` on set to the scales of the eight heads of a block. -/
def put8 (n : ℕ) (Q : FVec Ideal S184x1024 .f32) (T : FVec Ideal S184x128 .f32) : FVec Ideal S184x128 .f32 :=
  put (BitVec.ofNat 32 (n + 7)) (cut 896 slices_S184x1024_o0_896_S184x128 Q) (put (BitVec.ofNat 32 (n + 6)) (cut 768 slices_S184x1024_o0_768_S184x128 Q)
    (put (BitVec.ofNat 32 (n + 5)) (cut 640 slices_S184x1024_o0_640_S184x128 Q) (put (BitVec.ofNat 32 (n + 4)) (cut 512 slices_S184x1024_o0_512_S184x128 Q)
    (put (BitVec.ofNat 32 (n + 3)) (cut 384 slices_S184x1024_o0_384_S184x128 Q) (put (BitVec.ofNat 32 (n + 2)) (cut 256 slices_S184x1024_o0_256_S184x128 Q)
    (put (BitVec.ofNat 32 (n + 1)) (cut 128 slices_S184x1024_o0_128_S184x128 Q) (put (BitVec.ofNat 32 n) (cut 0 slices_S184x1024_o0_0_S184x128 Q) T)))))))

/-- The table after the four blocks of keys and values. -/
def table (C2 C3 C4 C5 : FVec Ideal S184x1024 .f32) : FVec Ideal S184x128 .f32 :=
  put8 24 C5 (put8 16 C4 (put8 8 C3 (put8 0 C2 (broadcast S184x128 (Scalar.ofBits .f32 0x00000000#32)))))

section
variable (N T : FVec Ideal S184x128 .f32) (Q : FVec Ideal S184x1024 .f32) (r : Fin 184)

set_option maxHeartbeats 20000 in
theorem unitV_apply : unitV N (ix2 r 0) = Heads.unit (Rows.amax fun l => N (ix2 r l)) := by
  pointwise [unitV]
  rw [show (fun x => FloatOps.absf (F := Ideal) (φ := .f32) (N (ix2 r x))) = fun x => max (N (ix2 r x)) (-(N (ix2 r x)))
    from rfl, Rows.amax_eq_fold (fun l => N (ix2 r l))]
  rfl

set_option maxHeartbeats 20000 in
theorem codeV_apply (l : Fin 128) : codeV N (ix2 r l) = min (Ideal.ofBits FTy.f32 0x42FE0000#32) (max (Ideal.ofBits FTy.f32 0xC2FE0000#32)
    (Ideal.liftRound Ideal.roundHalfEven (Ideal.div (N (ix2 r l)) (Heads.unit (Rows.amax fun l => N (ix2 r l)))))) := by
  pointwise [codeV]
  rw [unitV_apply, Heads.mul_recip]

set_option maxHeartbeats 20000 in
theorem cut_apply (o : ℕ) (h) (ho : o + 128 ≤ 1024) (l : Fin 128) : cut o h Q (ix2 r l) = Q (ix2 r ⟨o + l, by omega⟩) := by
  pointwise [cut]

theorem unit_cut (o : ℕ) (h) (j : Fin 8) (hj : o = j * 128) : Heads.unit (Rows.amax fun l => cut o h Q (ix2 r l))
    = Heads.unit (Rows.amax fun l : Fin 128 => Q (ix2 r ⟨j * 128 + l, by omega⟩)) := by
  subst hj
  exact congrArg Heads.unit (congrArg Rows.amax (funext fun l => cut_apply Q r _ h (by omega) l))

theorem code_cut (o : ℕ) (h) (j : Fin 8) (l l' : Fin 128) (hj : o = j * 128) (hl : l' = l) :
    FloatOps.fptosi (F := Ideal) (φ := .f32) 8 (codeV (cut o h Q) (ix2 r l'))
    = Heads.code (Q (ix2 r ⟨j * 128 + l, by omega⟩)) (Heads.unit (Rows.amax fun l : Fin 128 => Q (ix2 r ⟨j * 128 + l, by omega⟩))) := by
  subst hl
  rw [codeV_apply, unit_cut Q r o h j hj]
  subst hj
  rw [cut_apply Q r _ h (by omega)]
  rfl

theorem put_apply (k : ℕ) (hk : k < 128) (l : Fin 128) : put (BitVec.ofNat 32 k) N T (ix2 r l)
    = if (l : ℕ) = k then Heads.unit (Rows.amax fun l => N (ix2 r l)) else T (ix2 r l) := by
  pointwise [put]
  rw [unitV_apply]
  have h : BitVec.ofNat 32 (l : ℕ) = BitVec.ofNat 32 k ↔ (l : ℕ) = k := by
    rw [← BitVec.toNat_inj, BitVec.toNat_ofNat, BitVec.toNat_ofNat, Nat.mod_eq_of_lt (by omega), Nat.mod_eq_of_lt (by omega)]
  unfold Scalar.select IntOp.cmpi
  by_cases e : (l : ℕ) = k
  · simp [e]
  · have e' := fun hh => e (h.1 hh)
    have hb : (BitVec.ofNat 32 (l : ℕ) == BitVec.ofNat 32 k) = false := by simpa using e'
    simp [e, hb]

/-- A lane that the eight set. -/
theorem put8_hit (n : ℕ) (hn : n + 8 ≤ 128) (j : Fin 8) (l : Fin 128) (hl : (l : ℕ) = n + j) : put8 n Q T (ix2 r l)
    = Heads.unit (Rows.amax fun l : Fin 128 => Q (ix2 r ⟨j * 128 + l, by omega⟩)) := by
  unfold put8
  rw [put_apply _ _ _ _ (by omega), put_apply _ _ _ _ (by omega), put_apply _ _ _ _ (by omega), put_apply _ _ _ _ (by omega),
    put_apply _ _ _ _ (by omega), put_apply _ _ _ _ (by omega), put_apply _ _ _ _ (by omega), put_apply _ _ _ _ (by omega)]
  split_ifs
  all_goals first | exact unit_cut Q r _ _ j (by omega) | (exfalso; omega)

/-- A lane that they leave. -/
theorem put8_miss (n : ℕ) (hn : n + 8 ≤ 128) (l : Fin 128) (hl : (l : ℕ) < n ∨ n + 8 ≤ l) : put8 n Q T (ix2 r l) = T (ix2 r l) := by
  unfold put8
  rw [put_apply _ _ _ _ (by omega), put_apply _ _ _ _ (by omega), put_apply _ _ _ _ (by omega), put_apply _ _ _ _ (by omega),
    put_apply _ _ _ _ (by omega), put_apply _ _ _ _ (by omega), put_apply _ _ _ _ (by omega), put_apply _ _ _ _ (by omega)]
  split_ifs
  all_goals first | rfl | (exfalso; omega)

/-- Lane `8 b + j` of the table is the scale of head `j` of block `b`. -/
theorem table_apply (C : Fin 4 → FVec Ideal S184x1024 .f32) (b : Fin 4) (j : Fin 8) (l : Fin 128) (hl : (l : ℕ) = 8 * b + j) :
    table (C 0) (C 1) (C 2) (C 3) (ix2 r l)
    = Heads.unit (Rows.amax fun l : Fin 128 => C b (ix2 r ⟨j * 128 + l, by omega⟩)) := by
  unfold table
  obtain ⟨b, hb⟩ := b
  dsimp only at hl
  interval_cases b
  · rw [put8_miss _ _ _ _ (by norm_num) _ (by omega), put8_miss _ _ _ _ (by norm_num) _ (by omega),
      put8_miss _ _ _ _ (by norm_num) _ (by omega), put8_hit _ _ _ _ (by norm_num) j _ (by omega)]
    rfl
  · rw [put8_miss _ _ _ _ (by norm_num) _ (by omega), put8_miss _ _ _ _ (by norm_num) _ (by omega),
      put8_hit _ _ _ _ (by norm_num) j _ (by omega)]
    rfl
  · rw [put8_miss _ _ _ _ (by norm_num) _ (by omega), put8_hit _ _ _ _ (by norm_num) j _ (by omega)]
    rfl
  · rw [put8_hit _ _ _ _ (by norm_num) j _ (by omega)]
    rfl

theorem codes_apply (j : Fin 8) (l : Fin 128) : codes Q (ix4 0 r j l)
    = Heads.code (Q (ix2 r ⟨j * 128 + l, by omega⟩)) (Heads.unit (Rows.amax fun l : Fin 128 => Q (ix2 r ⟨j * 128 + l, by omega⟩))) := by
  pointwise [codes]
  split_ifs
  all_goals exact code_cut Q r _ _ j l _ (by omega) (Fin.ext (by dsimp only; omega))

end

/-! ## The rows -/

section
variable (x0 : Vec Ideal S1x184x2048 .fp8e4m3) (x1 : Vec Ideal S1x184x1 .f32) (x2 : Vec Ideal S1x184x2048 .bf16)
  (x3 : Vec Ideal S2048x2048 .fp8e4m3) (x4 x5 x6 : Vec Ideal S1x2048 .f32) (x7 : Vec Ideal S1x1x2048 .f32)
  (x8 : Vec Ideal S2048x6144 .fp8e4m3) (x9 : Vec Ideal S1x6144 .f32)

/-- What every token meets. -/
def params : Heads.Params where
  wo x c := x3 (ix2 x c)
  so c := x4 (ix2 0 c)
  g c := x5 (ix2 0 c)
  b c := x6 (ix2 0 c)
  w x c := x8 (ix2 x c)
  ws c := x9 (ix2 0 c)

/-- Token `r` of a block. -/
def token (r : Fin 184) : Heads.Token where
  a x := x0 (ix3 0 r x)
  s := x1 (ix3 0 r 0)
  x c := x2 (ix3 0 r c)
  act c := x7 (ix3 0 0 c)

/-- The block's rows that the second product quantises, its scales and codes. -/
abbrev inputV : FVec Ideal S184x2048 .f32 := k0_pay9 x5 x6 (k0_pay7 x2 x0 x3 x1 x4) (k0_pay8 x2 x0 x3 x1 x4) (Scalar.ofBits .f32 0x3727C5AC#32) x7
abbrev scaleV : FVec Ideal S184x1 .f32 := k0_pay10 x5 x6 (k0_pay7 x2 x0 x3 x1 x4) (k0_pay8 x2 x0 x3 x1 x4) (Scalar.ofBits .f32 0x3727C5AC#32) x7
abbrev codeV' : FVec Ideal S184x2048 .fp8e4m3 := k0_pay12 x5 x6 (k0_pay7 x2 x0 x3 x1 x4) (k0_pay8 x2 x0 x3 x1 x4) (Scalar.ofBits .f32 0x3727C5AC#32) x7

variable (r : Fin 184)

set_option maxHeartbeats 20000 in
theorem resid_apply (c : Fin 2048) : k0_pay5 x2 x0 x3 x1 x4 (ix2 r c)
    = Heads.resid (params x3 x4 x5 x6 x8 x9) (token x0 x1 x2 x7 r) c := by
  pointwise [k0_pay5, dot_S184x2048_S2048x2048_S184x2048_1_0_0_1_n_n]
  rfl

set_option maxHeartbeats 40000 in
theorem input_apply (c : Fin 2048) : inputV x0 x1 x2 x3 x4 x5 x6 x7 (ix2 r c)
    = Heads.input (params x3 x4 x5 x6 x8 x9) (token x0 x1 x2 x7 r) c := by
  pointwise [inputV, k0_pay9, k0_pay8, k0_pay7]
  simp only [resid_apply x0 x1 x2 x3 x4 x5 x6 x7 x8 x9]
  exact congrArg (· + x7 (ix3 0 0 c)) (Rows.layerNorm_recip (Heads.resid (params x3 x4 x5 x6 x8 x9) (token x0 x1 x2 x7 r))
    (fun c => x5 (ix2 0 c)) (fun c => x6 (ix2 0 c)) c)

set_option maxHeartbeats 40000 in
theorem scale_apply : scaleV x0 x1 x2 x3 x4 x5 x6 x7 (ix2 r 0)
    = Quant.scale (Heads.input (params x3 x4 x5 x6 x8 x9) (token x0 x1 x2 x7 r)) := by
  pointwise [scaleV, k0_pay10]
  have h : ∀ x, k0_pay9 x5 x6 (k0_pay7 x2 x0 x3 x1 x4) (k0_pay8 x2 x0 x3 x1 x4) (Ideal.ofBits FTy.f32 925353388#32) x7 (ix2 r x)
      = Heads.input (params x3 x4 x5 x6 x8 x9) (token x0 x1 x2 x7 r) x := input_apply x0 x1 x2 x3 x4 x5 x6 x7 x8 x9 r
  simp only [h]
  rw [show ∀ f : Fin 2048 → EReal, (fun x => FloatOps.absf (F := Ideal) (φ := .f32) (f x)) = fun x => max (f x) (-(f x))
    from fun _ => rfl, Rows.amax_eq_fold]
  rfl

set_option maxHeartbeats 40000 in
theorem code_apply (c : Fin 2048) : codeV' x0 x1 x2 x3 x4 x5 x6 x7 (ix2 r c)
    = Quant.code (Heads.input (params x3 x4 x5 x6 x8 x9) (token x0 x1 x2 x7 r)) c := by
  have h : ∀ x, k0_pay9 x5 x6 (k0_pay7 x2 x0 x3 x1 x4) (k0_pay8 x2 x0 x3 x1 x4) (Ideal.ofBits FTy.f32 925353388#32) x7 (ix2 r x)
      = Heads.input (params x3 x4 x5 x6 x8 x9) (token x0 x1 x2 x7 r) x := input_apply x0 x1 x2 x3 x4 x5 x6 x7 x8 x9 r
  have hs : k0_pay10 x5 x6 (k0_pay7 x2 x0 x3 x1 x4) (k0_pay8 x2 x0 x3 x1 x4) (Ideal.ofBits FTy.f32 925353388#32) x7 (ix2 r 0) = _ :=
    scale_apply x0 x1 x2 x3 x4 x5 x6 x7 x8 x9 r
  pointwise [codeV', k0_pay12]
  rw [h, hs]
  exact Rows.code_recip _ _

/-- The part of the projected block that starts at column `o`, from the weights' columns there. -/
abbrev partAt (o : ℕ) (h1 : ∀ a, (![0, o] : Fin 2 → ℕ) a + (![2048, 1024] : Fin 2 → ℕ) a ≤ S2048x6144.size a)
    (h2 : ∀ a, (![0, o] : Fin 2 → ℕ) a + (![1, 1024] : Fin 2 → ℕ) a ≤ S1x6144.size a) : FVec Ideal S184x1024 .f32 :=
  k0_pay17 (scaleV x0 x1 x2 x3 x4 x5 x6 x7) (codeV' x0 x1 x2 x3 x4 x5 x6 x7)
    (View.ld x8 (Rect.unit ![0, o] ![2048, 1024] h1)) (View.ld x9 (Rect.unit ![0, o] ![1, 1024] h2))

set_option maxHeartbeats 20000 in
theorem part_step (S : FVec Ideal S184x1 .f32) (C : FVec Ideal S184x2048 .fp8e4m3) (w : Vec Ideal S2048x1024 .fp8e4m3)
    (s : Vec Ideal S1x1024 .f32) (c : Fin 1024) : k0_pay17 S C w s (ix2 r c)
    = (∑ x : Fin 2048, C (ix2 r x) * w (ix2 x c)) * S (ix2 r 0) * s (ix2 0 c) := by
  pointwise [k0_pay17, dot_S184x2048_S2048x1024_S184x1024_1_0_0_1_n_n]

theorem partAt_apply (o : ℕ) (ho : o + 1024 ≤ 6144) (h1) (h2) (c : Fin 1024) :
    partAt x0 x1 x2 x3 x4 x5 x6 x7 x8 x9 o h1 h2 (ix2 r c)
    = Heads.qkv (params x3 x4 x5 x6 x8 x9) (token x0 x1 x2 x7 r) ⟨o + c, by omega⟩ := by
  have e1 : ∀ x : Fin 2048, View.ld x8 (Rect.unit ![0, o] ![2048, 1024] h1) (ix2 x c) = x8 (ix2 x ⟨o + c, by omega⟩) :=
    fun x => View.ld_unit_apply_of x8 _ _ _ _ _ fun a => by fin_cases a <;> simp [ix2]
  have e2 : View.ld x9 (Rect.unit ![0, o] ![1, 1024] h2) (ix2 0 c) = x9 (ix2 0 ⟨o + c, by omega⟩) :=
    View.ld_unit_apply_of x9 _ _ _ _ _ fun a => by fin_cases a <;> simp [ix2]
  refine (part_step r _ _ _ _ c).trans ?_
  rw [e2, scale_apply x0 x1 x2 x3 x4 x5 x6 x7 x8 x9]
  simp only [e1, code_apply x0 x1 x2 x3 x4 x5 x6 x7 x8 x9]
  rfl

end
end QkvTBlock
-- ==== Proof.QkvTPoint.lean ====
/-
  What one grid point of the kernel stores, as blocks of its ten input blocks.
-/
module

public import proofs.«01_k».proof.Proof.QkvTBlock
public import proofs.«01_k».proof.Proof.Gen.QkvTIdeal.Frame.RunA
public import proofs.«01_k».proof.Proof.Gen.QkvTIdeal.Frame.RunB
public import proofs.«01_k».proof.Proof.Gen.QkvTIdeal.Frame.RunC

@[expose] public section

set_option maxRecDepth 16384

noncomputable section

namespace QkvTBlock

open Idealize.ShloMosaic Idealize.ShloMosaic.TcCoe Idealize.SL.Sem Cert.QkvTIdeal Cert.QkvTIdeal.Gen

/-! ## Loads of whole blocks -/

theorem z2 : (![0, 0] : Fin 2 → ℕ) = fun _ => 0 := by decide
theorem z3 : (![0, 0, 0] : Fin 3 → ℕ) = fun _ => 0 := by decide

theorem ldA (h) (v : Vec Ideal S1x184x2048 .fp8e4m3) : View.ld v (Rect.unit ![0, 0, 0] ![1, 184, 2048] h) = v :=
  View.ld_unit_zero (S := S1x184x2048) z3 h v
theorem ldS (h) (v : Vec Ideal S1x184x1 .f32) : View.ld v (Rect.unit ![0, 0, 0] ![1, 184, 1] h) = v :=
  View.ld_unit_zero (S := S1x184x1) z3 h v
theorem ldX (h) (v : Vec Ideal S1x184x2048 .bf16) : View.ld v (Rect.unit ![0, 0, 0] ![1, 184, 2048] h) = v :=
  View.ld_unit_zero (S := S1x184x2048) z3 h v
theorem ldW (h) (v : Vec Ideal S2048x2048 .fp8e4m3) : View.ld v (Rect.unit ![0, 0] ![2048, 2048] h) = v :=
  View.ld_unit_zero (S := S2048x2048) z2 h v
theorem ldR (h) (v : Vec Ideal S1x2048 .f32) : View.ld v (Rect.unit ![0, 0] ![1, 2048] h) = v :=
  View.ld_unit_zero (S := S1x2048) z2 h v
theorem ldT (h) (v : Vec Ideal S1x1x2048 .f32) : View.ld v (Rect.unit ![0, 0, 0] ![1, 1, 2048] h) = v :=
  View.ld_unit_zero (S := S1x1x2048) z3 h v

/-! ## The stored pieces -/

section
variable (S : FVec Ideal S184x1 .f32) (C : FVec Ideal S184x2048 .fp8e4m3) (x8 : Vec Ideal S2048x6144 .fp8e4m3)
  (x9 : Vec Ideal S1x6144 .f32)

/-- The six parts of the projected block. -/
def part0 : FVec Ideal S184x1024 .f32 := k0_pay17 S C (View.ld x8 (Rect.unit ![0, 0] ![2048, 1024] inb_S2048x6144_S2048x1024_0_0))
  (View.ld x9 (Rect.unit ![0, 0] ![1, 1024] inb_S1x6144_S1x1024_0_0))
def part1 : FVec Ideal S184x1024 .f32 := k0_pay17 S C (View.ld x8 (Rect.unit ![0, 1024] ![2048, 1024] inb_S2048x6144_S2048x1024_0_1024))
  (View.ld x9 (Rect.unit ![0, 1024] ![1, 1024] inb_S1x6144_S1x1024_0_1024))
def part2 : FVec Ideal S184x1024 .f32 := k0_pay17 S C (View.ld x8 (Rect.unit ![0, 2048] ![2048, 1024] inb_S2048x6144_S2048x1024_0_2048))
  (View.ld x9 (Rect.unit ![0, 2048] ![1, 1024] inb_S1x6144_S1x1024_0_2048))
def part3 : FVec Ideal S184x1024 .f32 := k0_pay17 S C (View.ld x8 (Rect.unit ![0, 3072] ![2048, 1024] inb_S2048x6144_S2048x1024_0_3072))
  (View.ld x9 (Rect.unit ![0, 3072] ![1, 1024] inb_S1x6144_S1x1024_0_3072))
def part4 : FVec Ideal S184x1024 .f32 := k0_pay17 S C (View.ld x8 (Rect.unit ![0, 4096] ![2048, 1024] inb_S2048x6144_S2048x1024_0_4096))
  (View.ld x9 (Rect.unit ![0, 4096] ![1, 1024] inb_S1x6144_S1x1024_0_4096))
def part5 : FVec Ideal S184x1024 .f32 := k0_pay17 S C (View.ld x8 (Rect.unit ![0, 5120] ![2048, 1024] inb_S2048x6144_S2048x1024_0_5120))
  (View.ld x9 (Rect.unit ![0, 5120] ![1, 1024] inb_S1x6144_S1x1024_0_5120))

/-- A part as it is stored. -/
def stored (P : FVec Ideal S184x1024 .f32) : FVec Ideal S1x184x1024 .bf16 :=
  shapeCast S1x184x1024 (truncf .bf16 P bitsLt_bf16_f32) shapeCasts_S184x1024_S1x184x1024

/-- The projected block's pieces. -/
def qkvL : List (View.Piece (Elt Ideal) S1x184x6144 .bf16) :=
  [⟨Rect.unit ![0, 0, 5120] ![1, 184, 1024] inb_S1x184x6144_S1x184x1024_0_0_5120, stored (part5 S C x8 x9)⟩,
   ⟨Rect.unit ![0, 0, 4096] ![1, 184, 1024] inb_S1x184x6144_S1x184x1024_0_0_4096, stored (part4 S C x8 x9)⟩,
   ⟨Rect.unit ![0, 0, 3072] ![1, 184, 1024] inb_S1x184x6144_S1x184x1024_0_0_3072, stored (part3 S C x8 x9)⟩,
   ⟨Rect.unit ![0, 0, 2048] ![1, 184, 1024] inb_S1x184x6144_S1x184x1024_0_0_2048, stored (part2 S C x8 x9)⟩,
   ⟨Rect.unit ![0, 0, 1024] ![1, 184, 1024] inb_S1x184x6144_S1x184x1024_0_0_1024, stored (part1 S C x8 x9)⟩,
   ⟨Rect.unit ![0, 0, 0] ![1, 184, 1024] inb_S1x184x6144_S1x184x1024_0_0_0, stored (part0 S C x8 x9)⟩]

/-- The pieces of an array of codes. -/
def codesL (P Q : FVec Ideal S184x1024 .f32) : List (View.Piece (Elt Ideal) S1x184x16x128 .i8) :=
  [⟨Rect.unit ![0, 0, 8, 0] ![1, 184, 8, 128] inb_S1x184x16x128_S1x184x8x128_0_0_8_0, codes Q⟩,
   ⟨Rect.unit ![0, 0, 0, 0] ![1, 184, 8, 128] inb_S1x184x16x128_S1x184x8x128_0_0_0_0, codes P⟩]

/-- The block's table of scales. -/
def tableV : FVec Ideal S184x128 .f32 := shapeCast S184x128
  (table (part2 S C x8 x9) (part3 S C x8 x9) (part4 S C x8 x9) (part5 S C x8 x9)) shapeCasts_S184x128_S184x128

end

/-- The scratch after a point: its table written over what the scratch held. -/
def scratchV (i : grid0.Coords) (arg20 : Memref sig .tc .vmem S920x128 .f32) (harg20 : arg20.IsWhole)
    (T : FVec Ideal S184x128 .f32) (xs : Vec Ideal S920x128 .f32) : Vec Ideal S920x128 .f32 :=
  arg20.view.read (Elt Ideal) (arg20.view.writes (Elt Ideal) (harg20.unread xs)
    [⟨Rect.unit (k0_off1 i) ![184, 128] (k0_off1_inb i), T⟩])

theorem ldV (h) (v : Vec Ideal S920x128 .f32) : View.ld v (Rect.unit ![0, 0] ![920, 128] h) = v :=
  View.ld_unit_zero (S := S920x128) z2 h v

section
variable (c : Dev nD) (i : grid0.Coords) (arg2 : Memref sig .tc .vmem S1x184x2048 .fp8e4m3) (harg2 : arg2.IsWhole) (arg3 :
  Memref sig .tc .vmem S1x184x1 .f32) (harg3 : arg3.IsWhole) (arg4 : Memref sig .tc .vmem S1x184x2048 .bf16) (harg4 :
  arg4.IsWhole) (arg5 : Memref sig .tc .vmem S2048x2048 .fp8e4m3) (harg5 : arg5.IsWhole) (arg6 : Memref sig .tc .vmem
  S1x2048 .f32) (harg6 : arg6.IsWhole) (arg7 : Memref sig .tc .vmem S1x2048 .f32) (harg7 : arg7.IsWhole) (arg8 :
  Memref sig .tc .vmem S1x2048 .f32) (harg8 : arg8.IsWhole) (arg9 : Memref sig .tc .vmem S1x1x2048 .f32) (harg9 :
  arg9.IsWhole) (arg10 : Memref sig .tc .vmem S2048x6144 .fp8e4m3) (harg10 : arg10.IsWhole) (arg11 : Memref sig .tc
  .vmem S1x6144 .f32) (harg11 : arg11.IsWhole) (arg12 : Memref sig .tc .vmem S1x184x2048 .f32) (harg12 :
  arg12.IsWhole) (arg13 : Memref sig .tc .vmem S1x184x2048 .fp8e4m3) (harg13 : arg13.IsWhole) (arg14 : Memref sig .tc
  .vmem S1x184x1 .f32) (harg14 : arg14.IsWhole) (arg15 : Memref sig .tc .vmem S1x184x6144 .bf16) (harg15 :
  arg15.IsWhole) (arg16 : Memref sig .tc .vmem S1x184x16x128 .i8) (harg16 : arg16.IsWhole) (arg17 : Memref sig .tc
  .vmem S1x184x16x128 .i8) (harg17 : arg17.IsWhole) (arg18 : Memref sig .tc .vmem S1x16x920 .f32) (harg18 :
  arg18.IsWhole) (arg19 : Memref sig .tc .vmem S1x16x920 .f32) (harg19 : arg19.IsWhole) (arg20 : Memref sig .tc .vmem
  S920x128 .f32) (harg20 : arg20.IsWhole)
variable (x0 : Vec Ideal S1x184x2048 .fp8e4m3) (x1 : Vec Ideal S1x184x1 .f32) (x2 : Vec Ideal S1x184x2048 .bf16) (x3 : Vec
  Ideal S2048x2048 .fp8e4m3) (x4 : Vec Ideal S1x2048 .f32) (x5 : Vec Ideal S1x2048 .f32) (x6 : Vec Ideal S1x2048 .f32)
  (x7 : Vec Ideal S1x1x2048 .f32) (x8 : Vec Ideal S2048x6144 .fp8e4m3) (x9 : Vec Ideal S1x6144 .f32)
variable (S : FVec Ideal S184x1 .f32) (C : FVec Ideal S184x2048 .fp8e4m3)
  (hS : k0_pay10 x5 x6 (k0_pay7 x2 x0 x3 x1 x4) (k0_pay8 x2 x0 x3 x1 x4) (FloatOps.ofBits (F := Ideal) FTy.f32 925353388#32) x7 = S)
  (hC : k0_pay12 x5 x6 (k0_pay7 x2 x0 x3 x1 x4) (k0_pay8 x2 x0 x3 x1 x4) (FloatOps.ofBits (F := Ideal) FTy.f32 925353388#32) x7 = C)
include hS hC

/-- What the first point of a sequence stores. -/
theorem lists_A (hc0 : cond0_0 i) (hc1 : ¬cond0_1 i) :
    let R := kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9
    R.1 = [⟨Rect.unit ![0, 0, 0] ![1, 184, 2048] inb_S1x184x2048_S1x184x2048_0_0_0, k0_pay6 x2 x0 x3 x1 x4⟩]
    ∧ R.2.1 = [⟨Rect.unit ![0, 0, 0] ![1, 184, 2048] inb_S1x184x2048_S1x184x2048_0_0_0,
      shapeCast S1x184x2048 C shapeCasts_S184x2048_S1x184x2048⟩]
    ∧ R.2.2.1 = [⟨Rect.unit ![0, 0, 0] ![1, 184, 1] inb_S1x184x1_S1x184x1_0_0_0,
      shapeCast S1x184x1 S shapeCasts_S184x1_S1x184x1⟩]
    ∧ R.2.2.2.1 = qkvL S C x8 x9
    ∧ R.2.2.2.2.1 = codesL (part2 S C x8 x9) (part3 S C x8 x9)
    ∧ R.2.2.2.2.2.1 = codesL (part4 S C x8 x9) (part5 S C x8 x9)
    ∧ R.2.2.2.2.2.2.2.2.1 = [⟨Rect.unit (k0_off1 i) ![184, 128] (k0_off1_inb i), tableV S C x8 x9⟩,
      ⟨Rect.unit ![0, 0] ![920, 128] inb_S920x128_S920x128_0_0, (broadcast S920x128 (Scalar.ofBits .f32 0x00000000#32) : FVec Ideal S920x128 .f32)⟩] := by
  intro R
  unfold R kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, ldA, ldS, ldX, ldW, ldR, ldT, hS, hC]
  refine ⟨?_, ?_, ?_, ?_, ?_, ?_, ?_⟩
  · first | exact True.intro | rfl
  · subst hC; first | exact True.intro | rfl
  · subst hS; first | exact True.intro | rfl
  · rfl
  · rfl
  · rfl
  · rfl

/-- What a point between the first and the last of its sequence stores. -/
theorem lists_B (hc0 : ¬cond0_0 i) (hc1 : ¬cond0_1 i) :
    let R := kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9
    R.1 = [⟨Rect.unit ![0, 0, 0] ![1, 184, 2048] inb_S1x184x2048_S1x184x2048_0_0_0, k0_pay6 x2 x0 x3 x1 x4⟩]
    ∧ R.2.1 = [⟨Rect.unit ![0, 0, 0] ![1, 184, 2048] inb_S1x184x2048_S1x184x2048_0_0_0,
      shapeCast S1x184x2048 C shapeCasts_S184x2048_S1x184x2048⟩]
    ∧ R.2.2.1 = [⟨Rect.unit ![0, 0, 0] ![1, 184, 1] inb_S1x184x1_S1x184x1_0_0_0,
      shapeCast S1x184x1 S shapeCasts_S184x1_S1x184x1⟩]
    ∧ R.2.2.2.1 = qkvL S C x8 x9
    ∧ R.2.2.2.2.1 = codesL (part2 S C x8 x9) (part3 S C x8 x9)
    ∧ R.2.2.2.2.2.1 = codesL (part4 S C x8 x9) (part5 S C x8 x9)
    ∧ R.2.2.2.2.2.2.2.2.1 = [⟨Rect.unit (k0_off1 i) ![184, 128] (k0_off1_inb i),
      tableV S C x8 x9⟩] := by
  intro R
  unfold R kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, ldA, ldS, ldX, ldW, ldR, ldT, hS, hC]
  refine ⟨?_, ?_, ?_, ?_, ?_, ?_, ?_⟩
  · first | exact True.intro | rfl
  · subst hC; first | exact True.intro | rfl
  · subst hS; first | exact True.intro | rfl
  · rfl
  · rfl
  · rfl
  · rfl

/-- What the last point of a sequence stores. -/
theorem lists_C (hc0 : ¬cond0_0 i) (hc1 : cond0_1 i) (xs : Vec Ideal S920x128 .f32) :
    let R := kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs
    R.1 = [⟨Rect.unit ![0, 0, 0] ![1, 184, 2048] inb_S1x184x2048_S1x184x2048_0_0_0, k0_pay6 x2 x0 x3 x1 x4⟩]
    ∧ R.2.1 = [⟨Rect.unit ![0, 0, 0] ![1, 184, 2048] inb_S1x184x2048_S1x184x2048_0_0_0,
      shapeCast S1x184x2048 C shapeCasts_S184x2048_S1x184x2048⟩]
    ∧ R.2.2.1 = [⟨Rect.unit ![0, 0, 0] ![1, 184, 1] inb_S1x184x1_S1x184x1_0_0_0,
      shapeCast S1x184x1 S shapeCasts_S184x1_S1x184x1⟩]
    ∧ R.2.2.2.1 = qkvL S C x8 x9
    ∧ R.2.2.2.2.1 = codesL (part2 S C x8 x9) (part3 S C x8 x9)
    ∧ R.2.2.2.2.2.1 = codesL (part4 S C x8 x9) (part5 S C x8 x9)
    ∧ R.2.2.2.2.2.2.1 = [⟨Rect.unit ![0, 0, 0] ![1, 16, 920] inb_S1x16x920_S1x16x920_0_0_0,
      k0_pay3 (scratchV i arg20 harg20 (tableV S C x8 x9) xs)⟩]
    ∧ R.2.2.2.2.2.2.2.1 = [⟨Rect.unit ![0, 0, 0] ![1, 16, 920] inb_S1x16x920_S1x16x920_0_0_0,
      k0_pay4 (scratchV i arg20 harg20 (tableV S C x8 x9) xs)⟩] := by
  intro R
  unfold R kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, ldA, ldS, ldX, ldW, ldR, ldT, ldV, hS, hC]
  refine ⟨?_, ?_, ?_, ?_, ?_, ?_, ?_, ?_⟩
  · first | exact True.intro | rfl
  · subst hC; first | exact True.intro | rfl
  · subst hS; first | exact True.intro | rfl
  · rfl
  · rfl
  · rfl
  · rfl
  · rfl

end
end QkvTBlock
-- ==== Proof.QkvTStore.lean ====
/-
  The second call's stored pieces, entry by entry: six parts make the projected block, two parts each make the codes of
  keys and values, and the scratch, turned, makes the scales of a sequence.
-/
module

public import proofs.«01_k».proof.Proof.QkvTPoint

@[expose] public section

set_option maxRecDepth 16384

noncomputable section

namespace QkvTBlock

open Idealize.ShloMosaic Idealize.ShloMosaic.TcCoe Idealize.SL.Sem Cert.QkvTIdeal Cert.QkvTIdeal.Gen

/-! ## The scratch, turned -/

section
variable (v : Vec Ideal S920x128 .f32) (s : Fin 920)

theorem turned_apply (l : Fin 128) : k0_pay2 v (ix2 l s) = v (ix2 s l) := by
  pointwise [k0_pay2]

/-- The key scales of a sequence. -/
theorem keys_apply (h : Fin 16) : k0_pay3 v (ix3 0 h s) = v (ix2 s ⟨h, by omega⟩) := by
  pointwise [k0_pay3]
  exact (congrArg (fun l => k0_pay2 v (ix2 l s)) (Fin.ext (by simp))).trans (turned_apply v s ⟨h, by omega⟩)

/-- The value scales of a sequence. -/
theorem values_apply (h : Fin 16) : k0_pay4 v (ix3 0 h s) = v (ix2 s ⟨16 + h, by omega⟩) := by
  pointwise [k0_pay4]
  exact (congrArg (fun l => k0_pay2 v (ix2 l s)) (Fin.ext (by simp))).trans (turned_apply v s ⟨16 + h, by omega⟩)

end

/-! ## Codes of two parts -/

section
variable (q : Fin 184 → Fin 6144 → EReal) (k : ℕ) (hk : k + 16 ≤ 48) (P Q : FVec Ideal S184x1024 .f32)
  (hP : ∀ (r : Fin 184) (c : Fin 1024), P (ix2 r c) = q r ⟨k * 128 + c, by omega⟩)
  (hQ : ∀ (r : Fin 184) (c : Fin 1024), Q (ix2 r c) = q r ⟨k * 128 + 1024 + c, by omega⟩)

/-- The codes of sixteen heads from head `k` on. -/
def headCodes : S1x184x16x128.Idx → BitVec 8 := fun y =>
  Heads.code (Heads.head (q ⟨(y 1).val, (y 1).isLt⟩) ⟨k + (y 2).val, by have : (y 2).val < 16 := (y 2).isLt; omega⟩ ⟨(y 3).val, (y 3).isLt⟩)
    (Heads.scale (q ⟨(y 1).val, (y 1).isLt⟩) ⟨k + (y 2).val, by have : (y 2).val < 16 := (y 2).isLt; omega⟩)

include hP in
theorem low_agree (h3 : ∀ a, (![0, 0, 0, 0] : Fin 4 → ℕ) a + (![1, 184, 8, 128] : Fin 4 → ℕ) a ≤ S1x184x16x128.size a)
    (j : S1x184x8x128.Idx) : codes P j = headCodes q k hk ((Rect.unit (s := S1x184x16x128) ![0, 0, 0, 0] ![1, 184, 8, 128] h3).emb j) := by
  idx_vars j
  rw [show j0 = 0 from Subsingleton.elim _ _, codes_apply]
  have e : ∀ l : Fin 128, P (ix2 j1 ⟨j2 * 128 + l, by omega⟩) = Heads.head (q j1) ⟨k + j2, by omega⟩ l := fun l => by
    rw [hP]; exact congrArg (q j1) (Fin.ext (by dsimp only; omega))
  simp only [e]
  have he : (Rect.unit (s := S1x184x16x128) ![0, 0, 0, 0] ![1, 184, 8, 128] h3).emb (ix4 0 j1 j2 j3)
      = (ix4 0 j1 ⟨j2, by omega⟩ j3 : S1x184x16x128.Idx) := by
    funext a; apply Fin.ext; rw [Rect.emb_apply]; fin_cases a <;> simp [ix4]
  rw [he]
  rfl

include hQ in
theorem high_agree (h3 : ∀ a, (![0, 0, 8, 0] : Fin 4 → ℕ) a + (![1, 184, 8, 128] : Fin 4 → ℕ) a ≤ S1x184x16x128.size a)
    (j : S1x184x8x128.Idx) : codes Q j = headCodes q k hk ((Rect.unit (s := S1x184x16x128) ![0, 0, 8, 0] ![1, 184, 8, 128] h3).emb j) := by
  idx_vars j
  rw [show j0 = 0 from Subsingleton.elim _ _, codes_apply]
  have e : ∀ l : Fin 128, Q (ix2 j1 ⟨j2 * 128 + l, by omega⟩) = Heads.head (q j1) ⟨k + (8 + j2), by omega⟩ l := fun l => by
    rw [hQ]; exact congrArg (q j1) (Fin.ext (by dsimp only; omega))
  simp only [e]
  have he : (Rect.unit (s := S1x184x16x128) ![0, 0, 8, 0] ![1, 184, 8, 128] h3).emb (ix4 0 j1 j2 j3)
      = (ix4 0 j1 ⟨8 + j2, by omega⟩ j3 : S1x184x16x128.Idx) := by
    funext a; apply Fin.ext; rw [Rect.emb_apply]; fin_cases a <;> simp [ix4]
  rw [he]
  rfl

include hP hQ in
theorem codesL_apply (r : Fin 184) (h : Fin 16) (l : Fin 128) : View.canon (codesL P Q) (ix4 0 r h l)
    = Heads.code (Heads.head (q r) ⟨k + h, by omega⟩ l) (Heads.scale (q r) ⟨k + h, by omega⟩) := by
  refine (View.canon_apply_of_pieces (headCodes q k hk) _ ?_ (ix4 0 r h l) (View.cover_of_tiled_head _ _ _ rfl _)).trans rfl
  intro p hp
  simp only [codesL, List.mem_cons, List.not_mem_nil, or_false] at hp
  rcases hp with rfl | rfl
  · exact high_agree q k hk Q hQ inb_S1x184x16x128_S1x184x8x128_0_0_8_0
  · exact low_agree q k hk P hP inb_S1x184x16x128_S1x184x8x128_0_0_0_0

end

/-! ## The block's rows -/

section
variable (x0 : Vec Ideal S1x184x2048 .fp8e4m3) (x1 : Vec Ideal S1x184x1 .f32) (x2 : Vec Ideal S1x184x2048 .bf16) (x3 : Vec
  Ideal S2048x2048 .fp8e4m3) (x4 : Vec Ideal S1x2048 .f32) (x5 : Vec Ideal S1x2048 .f32) (x6 : Vec Ideal S1x2048 .f32)
  (x7 : Vec Ideal S1x1x2048 .f32) (x8 : Vec Ideal S2048x6144 .fp8e4m3) (x9 : Vec Ideal S1x6144 .f32)

/-- Queries, keys and values of the block's tokens. -/
def rows (r : Fin 184) : Fin 6144 → EReal := Heads.qkv (params x3 x4 x5 x6 x8 x9) (token x0 x1 x2 x7 r)

/-- The block they make. -/
def rowsV : S1x184x6144.Idx → EReal := fun y => rows x0 x1 x2 x3 x4 x5 x6 x7 x8 x9 ⟨(y 1).val, (y 1).isLt⟩ ⟨(y 2).val, (y 2).isLt⟩

theorem stored_agree (P : FVec Ideal S184x1024 .f32) (o : ℕ) (ho : o + 1024 ≤ 6144)
    (hP : ∀ (r : Fin 184) (c : Fin 1024), P (ix2 r c) = rows x0 x1 x2 x3 x4 x5 x6 x7 x8 x9 r ⟨o + c, by omega⟩)
    (h3 : ∀ a, (![0, 0, o] : Fin 3 → ℕ) a + (![1, 184, 1024] : Fin 3 → ℕ) a ≤ S1x184x6144.size a) (j : S1x184x1024.Idx) :
    stored P j = rowsV x0 x1 x2 x3 x4 x5 x6 x7 x8 x9 ((Rect.unit (s := S1x184x6144) ![0, 0, o] ![1, 184, 1024] h3).emb j) := by
  idx_vars j
  have he : (Rect.unit (s := S1x184x6144) ![0, 0, o] ![1, 184, 1024] h3).emb (ix3 j0 j1 j2)
      = (ix3 j0 j1 ⟨o + j2, by omega⟩ : S1x184x6144.Idx) := by
    funext a; apply Fin.ext; rw [Rect.emb_apply]; fin_cases a <;> simp [ix3]
  rw [he]
  have e : stored P (ix3 j0 j1 j2) = P (ix2 j1 j2) := by
    pointwise [stored]
  rw [e, hP]
  rfl

section
variable (C : FVec Ideal S184x2048 .fp8e4m3) (S : FVec Ideal S184x1 .f32)
  (eS : scaleV x0 x1 x2 x3 x4 x5 x6 x7 = S) (eC : codeV' x0 x1 x2 x3 x4 x5 x6 x7 = C)
include eS eC

theorem part0_apply (r : Fin 184) (c : Fin 1024) : part0 S C x8 x9 (ix2 r c) = rows x0 x1 x2 x3 x4 x5 x6 x7 x8 x9 r ⟨0 + c, by omega⟩ := by
  subst eS eC; exact partAt_apply x0 x1 x2 x3 x4 x5 x6 x7 x8 x9 r 0 (by norm_num) _ _ c
theorem part1_apply (r : Fin 184) (c : Fin 1024) : part1 S C x8 x9 (ix2 r c) = rows x0 x1 x2 x3 x4 x5 x6 x7 x8 x9 r ⟨1024 + c, by omega⟩ := by
  subst eS eC; exact partAt_apply x0 x1 x2 x3 x4 x5 x6 x7 x8 x9 r 1024 (by norm_num) _ _ c
theorem part2_apply (r : Fin 184) (c : Fin 1024) : part2 S C x8 x9 (ix2 r c) = rows x0 x1 x2 x3 x4 x5 x6 x7 x8 x9 r ⟨2048 + c, by omega⟩ := by
  subst eS eC; exact partAt_apply x0 x1 x2 x3 x4 x5 x6 x7 x8 x9 r 2048 (by norm_num) _ _ c
theorem part3_apply (r : Fin 184) (c : Fin 1024) : part3 S C x8 x9 (ix2 r c) = rows x0 x1 x2 x3 x4 x5 x6 x7 x8 x9 r ⟨3072 + c, by omega⟩ := by
  subst eS eC; exact partAt_apply x0 x1 x2 x3 x4 x5 x6 x7 x8 x9 r 3072 (by norm_num) _ _ c
theorem part4_apply (r : Fin 184) (c : Fin 1024) : part4 S C x8 x9 (ix2 r c) = rows x0 x1 x2 x3 x4 x5 x6 x7 x8 x9 r ⟨4096 + c, by omega⟩ := by
  subst eS eC; exact partAt_apply x0 x1 x2 x3 x4 x5 x6 x7 x8 x9 r 4096 (by norm_num) _ _ c
theorem part5_apply (r : Fin 184) (c : Fin 1024) : part5 S C x8 x9 (ix2 r c) = rows x0 x1 x2 x3 x4 x5 x6 x7 x8 x9 r ⟨5120 + c, by omega⟩ := by
  subst eS eC; exact partAt_apply x0 x1 x2 x3 x4 x5 x6 x7 x8 x9 r 5120 (by norm_num) _ _ c

/-- The projected block. -/
theorem qkvL_apply (r : Fin 184) (c : Fin 6144) : View.canon (qkvL S C x8 x9) (ix3 0 r c) = rows x0 x1 x2 x3 x4 x5 x6 x7 x8 x9 r c := by
  refine (View.canon_apply_of_pieces (rowsV x0 x1 x2 x3 x4 x5 x6 x7 x8 x9) _ ?_ (ix3 0 r c)
    (View.cover_of_tiled_head _ _ _ rfl _)).trans rfl
  intro p hp
  simp only [qkvL, List.mem_cons, List.not_mem_nil, or_false] at hp
  rcases hp with rfl | rfl | rfl | rfl | rfl | rfl
  · exact stored_agree x0 x1 x2 x3 x4 x5 x6 x7 x8 x9 _ 5120 (by norm_num) (part5_apply x0 x1 x2 x3 x4 x5 x6 x7 x8 x9 C S eS eC) inb_S1x184x6144_S1x184x1024_0_0_5120
  · exact stored_agree x0 x1 x2 x3 x4 x5 x6 x7 x8 x9 _ 4096 (by norm_num) (part4_apply x0 x1 x2 x3 x4 x5 x6 x7 x8 x9 C S eS eC) inb_S1x184x6144_S1x184x1024_0_0_4096
  · exact stored_agree x0 x1 x2 x3 x4 x5 x6 x7 x8 x9 _ 3072 (by norm_num) (part3_apply x0 x1 x2 x3 x4 x5 x6 x7 x8 x9 C S eS eC) inb_S1x184x6144_S1x184x1024_0_0_3072
  · exact stored_agree x0 x1 x2 x3 x4 x5 x6 x7 x8 x9 _ 2048 (by norm_num) (part2_apply x0 x1 x2 x3 x4 x5 x6 x7 x8 x9 C S eS eC) inb_S1x184x6144_S1x184x1024_0_0_2048
  · exact stored_agree x0 x1 x2 x3 x4 x5 x6 x7 x8 x9 _ 1024 (by norm_num) (part1_apply x0 x1 x2 x3 x4 x5 x6 x7 x8 x9 C S eS eC) inb_S1x184x6144_S1x184x1024_0_0_1024
  · exact stored_agree x0 x1 x2 x3 x4 x5 x6 x7 x8 x9 _ 0 (by norm_num) (part0_apply x0 x1 x2 x3 x4 x5 x6 x7 x8 x9 C S eS eC) inb_S1x184x6144_S1x184x1024_0_0_0

/-- The key codes. -/
theorem kcodes_apply (r : Fin 184) (h : Fin 16) (l : Fin 128) :
    View.canon (codesL (part2 S C x8 x9) (part3 S C x8 x9)) (ix4 0 r h l)
    = Heads.code (Heads.head (rows x0 x1 x2 x3 x4 x5 x6 x7 x8 x9 r) ⟨16 + h, by omega⟩ l)
      (Heads.scale (rows x0 x1 x2 x3 x4 x5 x6 x7 x8 x9 r) ⟨16 + h, by omega⟩) :=
  codesL_apply (rows x0 x1 x2 x3 x4 x5 x6 x7 x8 x9) 16 (by norm_num) _ _ (part2_apply x0 x1 x2 x3 x4 x5 x6 x7 x8 x9 C S eS eC)
    (part3_apply x0 x1 x2 x3 x4 x5 x6 x7 x8 x9 C S eS eC) r h l

/-- The value codes. -/
theorem vcodes_apply (r : Fin 184) (h : Fin 16) (l : Fin 128) :
    View.canon (codesL (part4 S C x8 x9) (part5 S C x8 x9)) (ix4 0 r h l)
    = Heads.code (Heads.head (rows x0 x1 x2 x3 x4 x5 x6 x7 x8 x9 r) ⟨32 + h, by omega⟩ l)
      (Heads.scale (rows x0 x1 x2 x3 x4 x5 x6 x7 x8 x9 r) ⟨32 + h, by omega⟩) :=
  codesL_apply (rows x0 x1 x2 x3 x4 x5 x6 x7 x8 x9) 32 (by norm_num) _ _ (part4_apply x0 x1 x2 x3 x4 x5 x6 x7 x8 x9 C S eS eC)
    (part5_apply x0 x1 x2 x3 x4 x5 x6 x7 x8 x9 C S eS eC) r h l

/-- The table of scales: lane `h` holds the scale of head `16 + h`. -/
theorem tableV_apply (r : Fin 184) (l : Fin 128) (h : Fin 32) (hl : (l : ℕ) = h) : tableV S C x8 x9 (ix2 r l)
    = Heads.scale (rows x0 x1 x2 x3 x4 x5 x6 x7 x8 x9 r) ⟨16 + h, by omega⟩ := by
  unfold tableV
  rw [shapeCast_self]
  refine (table_apply r ![part2 S C x8 x9, part3 S C x8 x9, part4 S C x8 x9, part5 S C x8 x9] ⟨h / 8, by omega⟩ ⟨h % 8, by omega⟩ l
    (by dsimp only; omega)).trans (congrArg Heads.unit (congrArg Rows.amax (funext fun x => ?_)))
  have key : ∀ (d : Fin 4) (y : Fin 1024) (z : Fin 6144), (z : ℕ) = 2048 + 1024 * d + y →
      (![part2 S C x8 x9, part3 S C x8 x9, part4 S C x8 x9, part5 S C x8 x9] : Fin 4 → FVec Ideal S184x1024 .f32) d (ix2 r y)
        = rows x0 x1 x2 x3 x4 x5 x6 x7 x8 x9 r z := by
    intro d y z hz
    fin_cases d
    · exact (part2_apply x0 x1 x2 x3 x4 x5 x6 x7 x8 x9 C S eS eC r y).trans (congrArg (rows x0 x1 x2 x3 x4 x5 x6 x7 x8 x9 r) (Fin.ext (by simpa using hz.symm)))
    · exact (part3_apply x0 x1 x2 x3 x4 x5 x6 x7 x8 x9 C S eS eC r y).trans (congrArg (rows x0 x1 x2 x3 x4 x5 x6 x7 x8 x9 r) (Fin.ext (by simpa using hz.symm)))
    · exact (part4_apply x0 x1 x2 x3 x4 x5 x6 x7 x8 x9 C S eS eC r y).trans (congrArg (rows x0 x1 x2 x3 x4 x5 x6 x7 x8 x9 r) (Fin.ext (by simpa using hz.symm)))
    · exact (part5_apply x0 x1 x2 x3 x4 x5 x6 x7 x8 x9 C S eS eC r y).trans (congrArg (rows x0 x1 x2 x3 x4 x5 x6 x7 x8 x9 r) (Fin.ext (by simpa using hz.symm)))
  exact key _ _ _ (by dsimp only; omega)

end
end
end QkvTBlock
-- ==== Proof.QkvTOuts.lean ====
/-
  What one grid point of the kernel leaves in its result blocks and in the scratch, row by row.
-/
module

public import proofs.«01_k».proof.Proof.QkvTStore
public import proofs.«01_k».proof.Proof.Gen.QkvTIdeal.Frame
public import Idealize.ShloMosaic.Lib.WritesUnit

@[expose] public section

set_option maxRecDepth 16384

noncomputable section

namespace QkvTBlock

open Idealize.ShloMosaic Idealize.ShloMosaic.TcCoe Idealize.SL.Sem Cert.QkvTIdeal Cert.QkvTIdeal.Gen

section
variable (x0 : Vec Ideal S1x184x2048 .fp8e4m3) (x1 : Vec Ideal S1x184x1 .f32) (x2 : Vec Ideal S1x184x2048 .bf16) (x3 : Vec
  Ideal S2048x2048 .fp8e4m3) (x4 : Vec Ideal S1x2048 .f32) (x5 : Vec Ideal S1x2048 .f32) (x6 : Vec Ideal S1x2048 .f32)
  (x7 : Vec Ideal S1x1x2048 .f32) (x8 : Vec Ideal S2048x6144 .fp8e4m3) (x9 : Vec Ideal S1x6144 .f32)

/-- The six result blocks hold the block's tokens' rows. -/
structure Stores (o10 : Vec Ideal S1x184x2048 .f32) (o11 : Vec Ideal S1x184x2048 .fp8e4m3) (o12 : Vec Ideal S1x184x1 .f32)
    (o13 : Vec Ideal S1x184x6144 .bf16) (o14 o15 : Vec Ideal S1x184x16x128 .i8) : Prop where
  resid : ∀ (r : Fin 184) (c : Fin 2048), o10 (ix3 0 r c)
    = Heads.resid (params x3 x4 x5 x6 x8 x9) (token x0 x1 x2 x7 r) c
  code : ∀ (r : Fin 184) (c : Fin 2048), o11 (ix3 0 r c)
    = Quant.code (Heads.input (params x3 x4 x5 x6 x8 x9) (token x0 x1 x2 x7 r)) c
  scale : ∀ r : Fin 184, o12 (ix3 0 r 0) = Quant.scale (Heads.input (params x3 x4 x5 x6 x8 x9) (token x0 x1 x2 x7 r))
  qkv : ∀ (r : Fin 184) (c : Fin 6144), o13 (ix3 0 r c) = rows x0 x1 x2 x3 x4 x5 x6 x7 x8 x9 r c
  keys : ∀ (r : Fin 184) (h : Fin 16) (l : Fin 128), o14 (ix4 0 r h l)
    = Heads.code (Heads.head (rows x0 x1 x2 x3 x4 x5 x6 x7 x8 x9 r) ⟨16 + h, by omega⟩ l) (Heads.scale (rows x0 x1 x2 x3 x4 x5 x6 x7 x8 x9 r) ⟨16 + h, by omega⟩)
  values : ∀ (r : Fin 184) (h : Fin 16) (l : Fin 128), o15 (ix4 0 r h l)
    = Heads.code (Heads.head (rows x0 x1 x2 x3 x4 x5 x6 x7 x8 x9 r) ⟨32 + h, by omega⟩ l) (Heads.scale (rows x0 x1 x2 x3 x4 x5 x6 x7 x8 x9 r) ⟨32 + h, by omega⟩)

/-- A scratch holds, from row `o` on, the scales of the block's heads. -/
def Own (o : ℕ) (V : Vec Ideal S920x128 .f32) : Prop :=
  ∀ (q : Fin 920) (r : Fin 184) (l : Fin 128) (h : Fin 32), (q : ℕ) = o + r → (l : ℕ) = h →
    V (ix2 q l) = Heads.scale (rows x0 x1 x2 x3 x4 x5 x6 x7 x8 x9 r) ⟨16 + h, by omega⟩

/-- A scratch agrees with another before row `o`. -/
def Kept (o : ℕ) (V xs : Vec Ideal S920x128 .f32) : Prop :=
  ∀ (q : Fin 920) (l : Fin 128), (q : ℕ) < o → V (ix2 q l) = xs (ix2 q l)

section
variable (C : FVec Ideal S184x2048 .fp8e4m3) (S : FVec Ideal S184x1 .f32)
  (eS : scaleV x0 x1 x2 x3 x4 x5 x6 x7 = S) (eC : codeV' x0 x1 x2 x3 x4 x5 x6 x7 = C)
include eS eC

theorem stores_of : Stores x0 x1 x2 x3 x4 x5 x6 x7 x8 x9
    (View.canon [⟨Rect.unit ![0, 0, 0] ![1, 184, 2048] inb_S1x184x2048_S1x184x2048_0_0_0, k0_pay6 x2 x0 x3 x1 x4⟩])
    (View.canon [⟨Rect.unit ![0, 0, 0] ![1, 184, 2048] inb_S1x184x2048_S1x184x2048_0_0_0,
      shapeCast S1x184x2048 C shapeCasts_S184x2048_S1x184x2048⟩])
    (View.canon [⟨Rect.unit ![0, 0, 0] ![1, 184, 1] inb_S1x184x1_S1x184x1_0_0_0,
      shapeCast S1x184x1 S shapeCasts_S184x1_S1x184x1⟩])
    (View.canon (qkvL S C x8 x9)) (View.canon (codesL (part2 S C x8 x9) (part3 S C x8 x9)))
    (View.canon (codesL (part4 S C x8 x9) (part5 S C x8 x9))) where
  resid r c := by
    rw [View.canon_unit_zero (S := S1x184x2048) z3 inb_S1x184x2048_S1x184x2048_0_0_0]
    refine Eq.trans ?_ (resid_apply x0 x1 x2 x3 x4 x5 x6 x7 x8 x9 r c)
    pointwise [k0_pay6]
  code r c := by
    rw [View.canon_unit_zero (S := S1x184x2048) z3 inb_S1x184x2048_S1x184x2048_0_0_0]
    refine Eq.trans ?_ (code_apply x0 x1 x2 x3 x4 x5 x6 x7 x8 x9 r c)
    rw [eC]
    pointwise
  scale r := by
    rw [View.canon_unit_zero (S := S1x184x1) z3 inb_S1x184x1_S1x184x1_0_0_0]
    refine Eq.trans ?_ (scale_apply x0 x1 x2 x3 x4 x5 x6 x7 x8 x9 r)
    rw [eS]
    pointwise
  qkv := qkvL_apply x0 x1 x2 x3 x4 x5 x6 x7 x8 x9 C S eS eC
  keys := kcodes_apply x0 x1 x2 x3 x4 x5 x6 x7 x8 x9 C S eS eC
  values := vcodes_apply x0 x1 x2 x3 x4 x5 x6 x7 x8 x9 C S eS eC

end
end

/-- The first row a point's table takes in the scratch. -/
theorem off_eq (i : grid0.Coords) : k0_off1 i = ![184 * (i 1).val, 0] := k0_off1_eq i

section
variable {κ : Kind} {sp : Space} (v : View sig κ sp S920x128 .f32) (f : v.ty.Contents (Elt Ideal)) (off : Fin 2 → ℕ)
  (inb : ∀ a : Fin 2, off a + (![184, 128] : Fin 2 → ℕ) a ≤ S920x128.size a) (o : ℕ) (hoff : off = ![o, 0])
  (T : FVec Ideal S184x128 .f32) (L : List (View.Piece (Elt Ideal) S920x128 .f32)) (q : Fin 920) (l : Fin 128)
include hoff

/-- A table written at row `o` is read back from there. -/
theorem read_own (r : Fin 184) (hq : (q : ℕ) = o + r) :
    v.read (Elt Ideal) (v.writes (Elt Ideal) f (⟨Rect.unit off ![184, 128] inb, T⟩ :: L)) (ix2 q l) = T (ix2 r l) :=
  View.read_writes_cons_rows_of_mem (size := ![184, 128]) v f inb T L (ix2 q l) (ix2 r l) hoff hq rfl

/-- The rows before it stay. -/
theorem read_kept (hq : (q : ℕ) < o) :
    v.read (Elt Ideal) (v.writes (Elt Ideal) f (⟨Rect.unit off ![184, 128] inb, T⟩ :: L)) (ix2 q l)
      = v.read (Elt Ideal) (v.writes (Elt Ideal) f L) (ix2 q l) :=
  View.read_writes_cons_rows_of_not_mem (size := ![184, 128]) v f inb T L (ix2 q l) hoff (W := 184) rfl (.inl hq)

end

section
variable (c : Dev nD) (i : grid0.Coords) (arg2 : Memref sig .tc .vmem S1x184x2048 .fp8e4m3) (harg2 : arg2.IsWhole) (arg3 :
  Memref sig .tc .vmem S1x184x1 .f32) (harg3 : arg3.IsWhole) (arg4 : Memref sig .tc .vmem S1x184x2048 .bf16) (harg4 :
  arg4.IsWhole) (arg5 : Memref sig .tc .vmem S2048x2048 .fp8e4m3) (harg5 : arg5.IsWhole) (arg6 : Memref sig .tc .vmem
  S1x2048 .f32) (harg6 : arg6.IsWhole) (arg7 : Memref sig .tc .vmem S1x2048 .f32) (harg7 : arg7.IsWhole) (arg8 :
  Memref sig .tc .vmem S1x2048 .f32) (harg8 : arg8.IsWhole) (arg9 : Memref sig .tc .vmem S1x1x2048 .f32) (harg9 :
  arg9.IsWhole) (arg10 : Memref sig .tc .vmem S2048x6144 .fp8e4m3) (harg10 : arg10.IsWhole) (arg11 : Memref sig .tc
  .vmem S1x6144 .f32) (harg11 : arg11.IsWhole) (arg12 : Memref sig .tc .vmem S1x184x2048 .f32) (harg12 :
  arg12.IsWhole) (arg13 : Memref sig .tc .vmem S1x184x2048 .fp8e4m3) (harg13 : arg13.IsWhole) (arg14 : Memref sig .tc
  .vmem S1x184x1 .f32) (harg14 : arg14.IsWhole) (arg15 : Memref sig .tc .vmem S1x184x6144 .bf16) (harg15 :
  arg15.IsWhole) (arg16 : Memref sig .tc .vmem S1x184x16x128 .i8) (harg16 : arg16.IsWhole) (arg17 : Memref sig .tc
  .vmem S1x184x16x128 .i8) (harg17 : arg17.IsWhole) (arg18 : Memref sig .tc .vmem S1x16x920 .f32) (harg18 :
  arg18.IsWhole) (arg19 : Memref sig .tc .vmem S1x16x920 .f32) (harg19 : arg19.IsWhole) (arg20 : Memref sig .tc .vmem
  S920x128 .f32) (harg20 : arg20.IsWhole)
variable (x0 : Vec Ideal S1x184x2048 .fp8e4m3) (x1 : Vec Ideal S1x184x1 .f32) (x2 : Vec Ideal S1x184x2048 .bf16) (x3 : Vec
  Ideal S2048x2048 .fp8e4m3) (x4 : Vec Ideal S1x2048 .f32) (x5 : Vec Ideal S1x2048 .f32) (x6 : Vec Ideal S1x2048 .f32)
  (x7 : Vec Ideal S1x1x2048 .f32) (x8 : Vec Ideal S2048x6144 .fp8e4m3) (x9 : Vec Ideal S1x6144 .f32)

theorem own_scratch (C : FVec Ideal S184x2048 .fp8e4m3) (S : FVec Ideal S184x1 .f32)
    (eS : scaleV x0 x1 x2 x3 x4 x5 x6 x7 = S) (eC : codeV' x0 x1 x2 x3 x4 x5 x6 x7 = C) (xs : Vec Ideal S920x128 .f32) :
    Own x0 x1 x2 x3 x4 x5 x6 x7 x8 x9 (184 * (i 1).val) (scratchV i arg20 harg20 (tableV S C x8 x9) xs) := by
  intro q r l h hq hl
  refine Eq.trans ?_ (tableV_apply x0 x1 x2 x3 x4 x5 x6 x7 x8 x9 C S eS eC r l h hl)
  generalize tableV S C x8 x9 = T
  exact read_own arg20.view _ _ (k0_off1_inb i) _ (off_eq i) T [] q l r hq

theorem kept_scratch (T : FVec Ideal S184x128 .f32) (xs : Vec Ideal S920x128 .f32) :
    Kept (184 * (i 1).val) (scratchV i arg20 harg20 T xs) xs := by
  intro q l hq
  refine (read_kept arg20.view _ _ (k0_off1_inb i) _ (off_eq i) T [] q l hq).trans ?_
  exact congrFun (harg20.read_unread xs) (ix2 q l)

/-- The blocks of the first point of a sequence. -/
theorem stores_A (hc0 : cond0_0 i) (hc1 : ¬cond0_1 i) : Stores x0 x1 x2 x3 x4 x5 x6 x7 x8 x9
    (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) := by
  obtain ⟨S, eS⟩ : ∃ S, scaleV x0 x1 x2 x3 x4 x5 x6 x7 = S := ⟨_, rfl⟩
  obtain ⟨C, eC⟩ : ∃ C, codeV' x0 x1 x2 x3 x4 x5 x6 x7 = C := ⟨_, rfl⟩
  obtain ⟨e10, e11, e12, e13, e14, e15, -⟩ := lists_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 S C eS eC hc0 hc1
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e10]
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e11]
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e12]
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e13]
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e14]
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e15]
  exact stores_of x0 x1 x2 x3 x4 x5 x6 x7 x8 x9 C S eS eC

/-- The blocks of a point between the first and the last. -/
theorem stores_B (hc0 : ¬cond0_0 i) (hc1 : ¬cond0_1 i) : Stores x0 x1 x2 x3 x4 x5 x6 x7 x8 x9
    (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) (out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) := by
  obtain ⟨S, eS⟩ : ∃ S, scaleV x0 x1 x2 x3 x4 x5 x6 x7 = S := ⟨_, rfl⟩
  obtain ⟨C, eC⟩ : ∃ C, codeV' x0 x1 x2 x3 x4 x5 x6 x7 = C := ⟨_, rfl⟩
  obtain ⟨e10, e11, e12, e13, e14, e15, -⟩ := lists_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 S C eS eC hc0 hc1
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e10]
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e11]
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e12]
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e13]
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e14]
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9), e15]
  exact stores_of x0 x1 x2 x3 x4 x5 x6 x7 x8 x9 C S eS eC

/-- The blocks of the last point of a sequence. -/
theorem stores_C (hc0 : ¬cond0_0 i) (hc1 : cond0_1 i) (xs : Vec Ideal S920x128 .f32) : Stores x0 x1 x2 x3 x4 x5 x6 x7 x8 x9
    (out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) (out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) (out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) (out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) (out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) (out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) := by
  obtain ⟨S, eS⟩ : ∃ S, scaleV x0 x1 x2 x3 x4 x5 x6 x7 = S := ⟨_, rfl⟩
  obtain ⟨C, eC⟩ : ∃ C, codeV' x0 x1 x2 x3 x4 x5 x6 x7 = C := ⟨_, rfl⟩
  obtain ⟨e10, e11, e12, e13, e14, e15, -⟩ := lists_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 S C eS eC hc0 hc1 xs
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e10]
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e11]
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e12]
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e13]
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e14]
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e15]
  exact stores_of x0 x1 x2 x3 x4 x5 x6 x7 x8 x9 C S eS eC

/-- The scratch after the first point. -/
theorem own_A (hc0 : cond0_0 i) (hc1 : ¬cond0_1 i) : Own x0 x1 x2 x3 x4 x5 x6 x7 x8 x9 (184 * (i 1).val) (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9) := by
  obtain ⟨S, eS⟩ : ∃ S, scaleV x0 x1 x2 x3 x4 x5 x6 x7 = S := ⟨_, rfl⟩
  obtain ⟨C, eC⟩ : ∃ C, codeV' x0 x1 x2 x3 x4 x5 x6 x7 = C := ⟨_, rfl⟩
  obtain ⟨-, -, -, -, -, -, e⟩ := lists_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 S C eS eC hc0 hc1
  intro q r l h hq hl
  refine Eq.trans ?_ (tableV_apply x0 x1 x2 x3 x4 x5 x6 x7 x8 x9 C S eS eC r l h hl)
  unfold sout0_A_0
  rw [e]
  generalize tableV S C x8 x9 = T
  exact read_own VS0_0 _ _ (k0_off1_inb i) _ (off_eq i) T _ q l r hq

/-- The scratch after a point between the first and the last. -/
theorem own_B (hc0 : ¬cond0_0 i) (hc1 : ¬cond0_1 i) (xs : Vec Ideal S920x128 .f32) :
    Own x0 x1 x2 x3 x4 x5 x6 x7 x8 x9 (184 * (i 1).val) (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) ∧ Kept (184 * (i 1).val) (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs) xs := by
  obtain ⟨S, eS⟩ : ∃ S, scaleV x0 x1 x2 x3 x4 x5 x6 x7 = S := ⟨_, rfl⟩
  obtain ⟨C, eC⟩ : ∃ C, codeV' x0 x1 x2 x3 x4 x5 x6 x7 = C := ⟨_, rfl⟩
  obtain ⟨-, -, -, -, -, -, e⟩ := lists_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 S C eS eC hc0 hc1
  have h : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs = scratchV i arg20 harg20 (tableV S C x8 x9) xs := by
    unfold sout0_B_0
    rw [e]
    rfl
  rw [h]
  exact ⟨own_scratch i arg20 harg20 x0 x1 x2 x3 x4 x5 x6 x7 x8 x9 C S eS eC xs, kept_scratch i arg20 harg20 _ xs⟩

/-- The scales the last point stores, read off a scratch. -/
theorem scales_C (hc0 : ¬cond0_0 i) (hc1 : cond0_1 i) (xs : Vec Ideal S920x128 .f32) :
    ∃ V : Vec Ideal S920x128 .f32, Own x0 x1 x2 x3 x4 x5 x6 x7 x8 x9 (184 * (i 1).val) V ∧ Kept (184 * (i 1).val) V xs
      ∧ (∀ (h : Fin 16) (q : Fin 920), out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs (ix3 0 h q) = V (ix2 q ⟨h, by omega⟩))
      ∧ ∀ (h : Fin 16) (q : Fin 920), out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs (ix3 0 h q) = V (ix2 q ⟨16 + h, by omega⟩) := by
  obtain ⟨S, eS⟩ : ∃ S, scaleV x0 x1 x2 x3 x4 x5 x6 x7 = S := ⟨_, rfl⟩
  obtain ⟨C, eC⟩ : ∃ C, codeV' x0 x1 x2 x3 x4 x5 x6 x7 = C := ⟨_, rfl⟩
  obtain ⟨-, -, -, -, -, -, e16, e17⟩ := lists_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 S C eS eC hc0 hc1 xs
  refine ⟨scratchV i arg20 harg20 (tableV S C x8 x9) xs, own_scratch i arg20 harg20 x0 x1 x2 x3 x4 x5 x6 x7 x8 x9 C S eS eC xs,
    kept_scratch i arg20 harg20 _ xs, fun h q => ?_, fun h q => ?_⟩
  · unfold out0_C_16
    rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e16,
      View.canon_unit_zero (S := S1x16x920) z3 inb_S1x16x920_S1x16x920_0_0_0]
    exact keys_apply _ q h
  · unfold out0_C_17
    rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs), e17,
      View.canon_unit_zero (S := S1x16x920) z3 inb_S1x16x920_S1x16x920_0_0_0]
    exact values_apply _ q h

end
end QkvTBlock
-- ==== Proof.QkvTRef.lean ====
/-
  The second call's reference, step by step and row by row.
-/
module

public import proofs.«01_k».proof.Proof.Heads
public import proofs.«01_k».proof.Proof.Gen.QkvTRefIdeal.Frame

@[expose] public section

set_option maxRecDepth 16384

noncomputable section

namespace QkvTRef

open Idealize.ShloMosaic Cert.QkvTRefIdeal Cert.QkvTRefIdeal.Gen

section
variable (N : FVec Ideal S4x920x2048 .f32) (S : FVec Ideal S4x920x1 .f32) (b : Fin 4) (r : Fin 920)

/-! ## The reference's steps on any arrays: the row of 2048 entries -/

theorem resid_step (x0 : Vec Ideal S4x920x2048 .bf16) (q : Vec Ideal S4x920x2048 .fp8e4m3) (w : Vec Ideal S2048x2048 .fp8e4m3)
    (s : Vec Ideal S1x2048 .f32) (c : Fin 2048) : k0_pay3 x0 q S w s (ix3 b r c)
    = x0 (ix3 b r c) + Rows.mm (fun x => q (ix3 b r x)) (S (ix3 b r 0)) (fun x c => w (ix2 x c)) (fun c => s (ix2 0 c)) c := by
  pointwise [k0_pay3, dot_S4x920x2048_S2048x2048_S4x920x2048_2_0_01_1_n_n]
  rfl

/-- The mean of each row. -/
theorem mean_step : divf (shapeCast S4x920x1 (multiReduction .add [2] S4x920 N 0x00000000#32
      reduces_S4x920x2048_S4x920 (.inl rfl) rfl : FVec Ideal S4x920 .f32) shapeCasts_S4x920_S4x920x1 : FVec Ideal S4x920x1 .f32)
      (broadcast S4x920x1 (Scalar.ofBits .f32 0x45000000#32)) (ix3 b r 0) = Rows.mean fun x => N (ix3 b r x) := by
  pointwise
  rfl

/-- Subtracting a column. -/
theorem sub_step (c : Fin 2048) : subf N (broadcastTo S4x920x2048 S broadcasts_S4x920x1_S4x920x2048) (ix3 b r c)
    = N (ix3 b r c) - S (ix3 b r 0) := by
  pointwise

/-- The square of an entry. -/
theorem square_step (c : Fin 2048) : mulf N N (ix3 b r c) = N (ix3 b r c) * N (ix3 b r c) := by
  pointwise

/-- Dividing by the root of a column plus epsilon. -/
theorem root_step (c : Fin 2048) : divf N (broadcastTo S4x920x2048
      (sqrt (addf S (broadcast S4x920x1 (Scalar.ofBits .f32 0x3727C5AC#32)))) broadcasts_S4x920x1_S4x920x2048) (ix3 b r c)
    = Ideal.div (N (ix3 b r c)) (Ideal.sqrt (S (ix3 b r 0) + Ideal.ofBits FTy.f32 0x3727C5AC#32)) := by
  pointwise

/-- Gain, shift and action row. -/
theorem affine_step (g s : Vec Ideal S1x2048 .f32) (a : Vec Ideal S4x1x2048 .f32) (c : Fin 2048) :
    k0_pay6 s N (k0_pay5 g) a (ix3 b r c) = N (ix3 b r c) * g (ix2 0 c) + s (ix2 0 c) + a (ix3 b 0 c) := by
  pointwise [k0_pay6, k0_pay5]

/-- The largest magnitudes. -/
theorem amax_step : (shapeCast S4x920x1 (multiReduction .maximumf [2] S4x920 (absf N) 0xFF800000#32
      reduces_S4x920x2048_S4x920 (.inl rfl) rfl : FVec Ideal S4x920 .f32) shapeCasts_S4x920_S4x920x1 : FVec Ideal S4x920x1 .f32) (ix3 b r 0)
    = Rows.amax fun x => N (ix3 b r x) := by
  pointwise
  exact Rows.amax_eq_fold fun x => N (ix3 b r x)

/-- The scale step. -/
theorem scale_step : select (cmpf .oeq S (broadcast S4x920x1 (Scalar.ofBits .f32 0x00000000#32)))
    (broadcast S4x920x1 (Scalar.ofBits .f32 0x3F800000#32))
    (divf S (broadcast S4x920x1 (Scalar.ofBits .f32 0x43E00000#32))) (ix3 b r 0)
    = Rows.scale (S (ix3 b r 0)) := by
  pointwise
  rfl

/-- The code step. -/
theorem code_step (c : Fin 2048) : minimumf (broadcast S4x920x2048 (Scalar.ofBits .f32 0x43E00000#32))
    (maximumf (broadcast S4x920x2048 (Scalar.ofBits .f32 0xC3E00000#32))
      (divf N (broadcastTo S4x920x2048 S broadcasts_S4x920x1_S4x920x2048))) (ix3 b r c)
    = Rows.code (N (ix3 b r c)) (S (ix3 b r 0)) := by
  pointwise
  rfl

/-- The product of codes and scales. -/
def product (w : Vec Ideal S2048x6144 .fp8e4m3) (ws : Vec Ideal S1x6144 .f32) : FVec Ideal S4x920x6144 .f32 :=
  mulf (mulf (matmul (φ₂ := .fp8e4m3) dot_S4x920x2048_S2048x6144_S4x920x6144_2_0_01_1_n_n none (truncf .fp8e4m3 N bitsLt_fp8e4m3_f32) w
    (constant S4x920x6144 .f32 0x00000000#32)) (broadcastTo S4x920x6144 S broadcasts_S4x920x1_S4x920x6144))
    (broadcastTo S4x920x6144 (shapeCast S1x1x6144 ws shapeCasts_S1x6144_S1x1x6144) broadcasts_S1x1x6144_S4x920x6144)

theorem product_step (w : Vec Ideal S2048x6144 .fp8e4m3) (ws : Vec Ideal S1x6144 .f32) (c : Fin 6144) : product N S w ws (ix3 b r c)
    = Rows.mm (fun x => N (ix3 b r x)) (S (ix3 b r 0)) (fun x c => w (ix2 x c)) (fun c => ws (ix2 0 c)) c := by
  pointwise [product, dot_S4x920x2048_S2048x6144_S4x920x6144_2_0_01_1_n_n]
  rfl

end

/-! ## The reference's steps on any arrays: the heads -/

section
variable (Q : FVec Ideal S4x920x6144 .f32) (N : FVec Ideal S4x920x16x128 .f32) (S : FVec Ideal S4x920x16x1 .f32)
  (b : Fin 4) (r : Fin 920) (h : Fin 16) (l : Fin 128)

theorem k_head : k0_pay13 Q (ix4 b r h l) = Heads.head (fun x => Q (ix3 b r x)) ⟨16 + h, by omega⟩ l := by
  pointwise [k0_pay13, k0_pay12]
  rfl

theorem v_head : k0_pay17 Q (ix4 b r h l) = Heads.head (fun x => Q (ix3 b r x)) ⟨32 + h, by omega⟩ l := by
  pointwise [k0_pay17, k0_pay12]
  rfl

/-- The largest magnitude of each head. -/
theorem head_amax_step : (shapeCast S4x920x16x1 (multiReduction .maximumf [3] S4x920x16 (absf N) 0xFF800000#32
      reduces_S4x920x16x128_S4x920x16 (.inl rfl) rfl : FVec Ideal S4x920x16 .f32) shapeCasts_S4x920x16_S4x920x16x1
      : FVec Ideal S4x920x16x1 .f32) (ix4 b r h 0) = Rows.amax fun x => N (ix4 b r h x) := by
  pointwise
  exact Rows.amax_eq_fold fun x => N (ix4 b r h x)

/-- The scale step of a head. -/
theorem head_scale_step : select (cmpf .oeq S (broadcast S4x920x16x1 (Scalar.ofBits .f32 0x00000000#32)))
    (broadcast S4x920x16x1 (Scalar.ofBits .f32 0x3F800000#32))
    (divf S (broadcast S4x920x16x1 (Scalar.ofBits .f32 0x42FE0000#32))) (ix4 b r h 0)
    = Heads.unit (S (ix4 b r h 0)) := by
  pointwise
  rfl

/-- The code step of a head. -/
theorem head_code_step : fptosi 8 (minimumf (broadcast S4x920x16x128 (Scalar.ofBits .f32 0x42FE0000#32))
    (maximumf (broadcast S4x920x16x128 (Scalar.ofBits .f32 0xC2FE0000#32))
      (roundeven (divf N (broadcastTo S4x920x16x128 S broadcasts_S4x920x16x1_S4x920x16x128))))) (ix4 b r h l)
    = Heads.code (N (ix4 b r h l)) (S (ix4 b r h 0)) := by
  pointwise
  rfl

/-- The scales, turned so that the tokens come last. -/
theorem turn_step (s : Fin 920) : k0_pay2 S (ix3 b h s) = S (ix4 b s h 0) := by
  pointwise [k0_pay2]

theorem k_scale : k0_pay14 Q (ix4 b r h 0) = Heads.scale (fun x => Q (ix3 b r x)) ⟨16 + h, by omega⟩ := by
  unfold k0_pay14
  refine (head_scale_step _ b r h).trans (congrArg Heads.unit ((head_amax_step (k0_pay13 Q) b r h).trans ?_))
  exact congrArg Rows.amax (funext fun x => k_head Q b r h x)

theorem v_scale : k0_pay18 Q (ix4 b r h 0) = Heads.scale (fun x => Q (ix3 b r x)) ⟨32 + h, by omega⟩ := by
  unfold k0_pay18
  refine (head_scale_step _ b r h).trans (congrArg Heads.unit ((head_amax_step (k0_pay17 Q) b r h).trans ?_))
  exact congrArg Rows.amax (funext fun x => v_head Q b r h x)

theorem k_code : k0_pay15 Q (ix4 b r h l) = Heads.code (Heads.head (fun x => Q (ix3 b r x)) ⟨16 + h, by omega⟩ l)
    (Heads.scale (fun x => Q (ix3 b r x)) ⟨16 + h, by omega⟩) := by
  unfold k0_pay15
  exact (head_code_step (k0_pay13 Q) (k0_pay14 Q) b r h l).trans (congrArg₂ Heads.code (k_head Q b r h l) (k_scale Q b r h))

theorem v_code : k0_pay1 (k0_pay19 Q) (Scalar.ofBits .f32 0xC2FE0000#32) (Scalar.ofBits .f32 0x42FE0000#32) (ix4 b r h l)
    = Heads.code (Heads.head (fun x => Q (ix3 b r x)) ⟨32 + h, by omega⟩ l)
    (Heads.scale (fun x => Q (ix3 b r x)) ⟨32 + h, by omega⟩) := by
  unfold k0_pay1 k0_pay19
  exact (head_code_step (k0_pay17 Q) (k0_pay18 Q) b r h l).trans (congrArg₂ Heads.code (v_head Q b r h l) (v_scale Q b r h))

end

/-! ## The rows of the arguments -/

variable (a0 : Vec Ideal S4x920x2048 .fp8e4m3) (a1 : Vec Ideal S4x920x1 .f32) (a2 : Vec Ideal S4x920x2048 .bf16)
  (a3 : Vec Ideal S2048x2048 .fp8e4m3) (a4 a5 a6 : Vec Ideal S1x2048 .f32) (a7 : Vec Ideal S4x1x2048 .f32)
  (a8 : Vec Ideal S2048x6144 .fp8e4m3) (a9 : Vec Ideal S1x6144 .f32)

/-- What every token meets. -/
def params : Heads.Params where
  wo x c := a3 (ix2 x c)
  so c := a4 (ix2 0 c)
  g c := a5 (ix2 0 c)
  b c := a6 (ix2 0 c)
  w x c := a8 (ix2 x c)
  ws c := a9 (ix2 0 c)

/-- Token `r` of frame `b`. -/
def token (b : Fin 4) (r : Fin 920) : Heads.Token where
  a x := a0 (ix3 b r x)
  s := a1 (ix3 b r 0)
  x c := a2 (ix3 b r c)
  act c := a7 (ix3 b 0 c)

variable (b : Fin 4) (r : Fin 920)

theorem pay3_apply (c : Fin 2048) : k0_pay3 a2 a0 a1 a3 a4 (ix3 b r c)
    = Heads.resid (params a3 a4 a5 a6 a8 a9) (token a0 a1 a2 a7 b r) c := resid_step a1 b r a2 a0 a3 a4 c

/-- The normalised row before gain and shift. -/
theorem pay4_apply (c : Fin 2048) : k0_pay4 a2 a0 a1 a3 a4 (ix3 b r c)
    = Ideal.div (Heads.resid (params a3 a4 a5 a6 a8 a9) (token a0 a1 a2 a7 b r) c
        - Rows.mean (Heads.resid (params a3 a4 a5 a6 a8 a9) (token a0 a1 a2 a7 b r)))
      (Rows.root (Heads.resid (params a3 a4 a5 a6 a8 a9) (token a0 a1 a2 a7 b r))) := by
  have e : (fun x => k0_pay3 a2 a0 a1 a3 a4 (ix3 b r x)) = Heads.resid (params a3 a4 a5 a6 a8 a9) (token a0 a1 a2 a7 b r) :=
    funext fun x => pay3_apply a0 a1 a2 a3 a4 a5 a6 a7 a8 a9 b r x
  have ec : ∀ x, subf (k0_pay3 a2 a0 a1 a3 a4) (broadcastTo S4x920x2048 (divf (shapeCast S4x920x1 (multiReduction .add [2] S4x920
      (k0_pay3 a2 a0 a1 a3 a4) 0x00000000#32 reduces_S4x920x2048_S4x920 (.inl rfl) rfl : FVec Ideal S4x920 .f32)
      shapeCasts_S4x920_S4x920x1 : FVec Ideal S4x920x1 .f32) (broadcast S4x920x1 (Scalar.ofBits .f32 0x45000000#32)))
      broadcasts_S4x920x1_S4x920x2048) (ix3 b r x)
      = Heads.resid (params a3 a4 a5 a6 a8 a9) (token a0 a1 a2 a7 b r) x
        - Rows.mean (Heads.resid (params a3 a4 a5 a6 a8 a9) (token a0 a1 a2 a7 b r)) := fun x =>
    (sub_step _ _ b r x).trans (congrArg₂ (· - ·) (congrFun e x) ((mean_step _ b r).trans (congrArg Rows.mean e)))
  unfold k0_pay4
  refine (root_step _ _ b r c).trans (congrArg₂ Ideal.div (ec c) (congrArg (fun v => Ideal.sqrt (v + _)) ((mean_step _ b r).trans
    (congrArg Rows.mean (funext fun x => (square_step _ b r x).trans (congrArg₂ (· * ·) (ec x) (ec x)))))))

/-- The row the second product quantises. -/
theorem pay6_apply (c : Fin 2048) : k0_pay6 a6 (k0_pay4 a2 a0 a1 a3 a4) (k0_pay5 a5) a7 (ix3 b r c)
    = Heads.input (params a3 a4 a5 a6 a8 a9) (token a0 a1 a2 a7 b r) c := by
  refine (affine_step _ b r a5 a6 a7 c).trans ?_
  rw [pay4_apply a0 a1 a2 a3 a4 a5 a6 a7 a8 a9]
  rfl

theorem pay7_apply : k0_pay7 a6 (k0_pay4 a2 a0 a1 a3 a4) (k0_pay5 a5) a7 (ix3 b r 0)
    = Quant.scale (Heads.input (params a3 a4 a5 a6 a8 a9) (token a0 a1 a2 a7 b r)) := by
  unfold k0_pay7
  refine (scale_step _ b r).trans (congrArg Rows.scale ((amax_step (k0_pay6 a6 (k0_pay4 a2 a0 a1 a3 a4) (k0_pay5 a5) a7) b r).trans ?_))
  exact congrArg Rows.amax (funext fun x => pay6_apply a0 a1 a2 a3 a4 a5 a6 a7 a8 a9 b r x)

theorem pay8_apply (c : Fin 2048) : k0_pay8 a6 (k0_pay4 a2 a0 a1 a3 a4) (k0_pay5 a5) a7 (ix3 b r c)
    = Quant.code (Heads.input (params a3 a4 a5 a6 a8 a9) (token a0 a1 a2 a7 b r)) c := by
  unfold k0_pay8
  exact (code_step (k0_pay6 a6 (k0_pay4 a2 a0 a1 a3 a4) (k0_pay5 a5) a7) (k0_pay7 a6 (k0_pay4 a2 a0 a1 a3 a4) (k0_pay5 a5) a7) b r c).trans
    (congrArg₂ Rows.code (pay6_apply a0 a1 a2 a3 a4 a5 a6 a7 a8 a9 b r c) (pay7_apply a0 a1 a2 a3 a4 a5 a6 a7 a8 a9 b r))

theorem pay10_eq (u : FVec Ideal S4x920x2048 .f32) (v : FVec Ideal S1x1x2048 .f32) :
    k0_pay10 a6 u v a7 a8 a9 = product (k0_pay8 a6 u v a7) (k0_pay7 a6 u v a7) a8 a9 := rfl

theorem pay10_apply (c : Fin 6144) : k0_pay10 a6 (k0_pay4 a2 a0 a1 a3 a4) (k0_pay5 a5) a7 a8 a9 (ix3 b r c)
    = Heads.qkv (params a3 a4 a5 a6 a8 a9) (token a0 a1 a2 a7 b r) c := by
  rw [pay10_eq]
  refine (product_step _ _ b r a8 a9 c).trans ?_
  rw [pay7_apply a0 a1 a2 a3 a4 a5 a6 a7 a8 a9, show (fun x => k0_pay8 a6 (k0_pay4 a2 a0 a1 a3 a4) (k0_pay5 a5) a7 (ix3 b r x))
    = Quant.code (Heads.input (params a3 a4 a5 a6 a8 a9) (token a0 a1 a2 a7 b r)) from
    funext fun x => pay8_apply a0 a1 a2 a3 a4 a5 a6 a7 a8 a9 b r x]
  rfl

end QkvTRef
-- ==== Proof.QkvTRefOut.lean ====
/-
  The second call's reference: each of its eight results, entry by entry.
-/
module

public import proofs.«01_k».proof.Proof.QkvTRef

@[expose] public section

set_option maxRecDepth 16384

noncomputable section

namespace QkvTRef

open Idealize.ShloMosaic Cert.QkvTRefIdeal Cert.QkvTRefIdeal.Gen

/-! ## Loads and stores of whole arrays -/

theorem o2 : (![0, 0] : Fin 2 → ℕ) = fun _ => 0 := by decide
theorem o3 : (![0, 0, 0] : Fin 3 → ℕ) = fun _ => 0 := by decide
theorem o4 : (![0, 0, 0, 0] : Fin 4 → ℕ) = fun _ => 0 := by decide

theorem ld0 {e : EltTy} (v : Vec Ideal S4x920x2048 e) : View.ld v r0_0 = v := View.ld_unit_zero (S := S4x920x2048) o3 _ v
theorem ld1 {e : EltTy} (v : Vec Ideal S4x920x1 e) : View.ld v r0_1 = v := View.ld_unit_zero (S := S4x920x1) o3 _ v
theorem ld2 {e : EltTy} (v : Vec Ideal S2048x2048 e) : View.ld v r0_2 = v := View.ld_unit_zero (S := S2048x2048) o2 _ v
theorem ld3 {e : EltTy} (v : Vec Ideal S1x2048 e) : View.ld v r0_3 = v := View.ld_unit_zero (S := S1x2048) o2 _ v
theorem ld4 {e : EltTy} (v : Vec Ideal S4x1x2048 e) : View.ld v r0_4 = v := View.ld_unit_zero (S := S4x1x2048) o3 _ v
theorem ld5 {e : EltTy} (v : Vec Ideal S2048x6144 e) : View.ld v r0_5 = v := View.ld_unit_zero (S := S2048x6144) o2 _ v
theorem ld6 {e : EltTy} (v : Vec Ideal S1x6144 e) : View.ld v r0_6 = v := View.ld_unit_zero (S := S1x6144) o2 _ v

theorem st0 {e : EltTy} (v : Vec Ideal S4x920x2048 e) : View.canon (Val := Elt Ideal) [⟨r0_0, v⟩] = v := View.canon_unit_zero (S := S4x920x2048) o3 _ v
theorem st1 {e : EltTy} (v : Vec Ideal S4x920x1 e) : View.canon (Val := Elt Ideal) [⟨r0_1, v⟩] = v := View.canon_unit_zero (S := S4x920x1) o3 _ v
theorem st7 {e : EltTy} (v : Vec Ideal S4x920x6144 e) : View.canon (Val := Elt Ideal) [⟨r0_7, v⟩] = v := View.canon_unit_zero (S := S4x920x6144) o3 _ v
theorem st8 {e : EltTy} (v : Vec Ideal S4x920x16x128 e) : View.canon (Val := Elt Ideal) [⟨r0_8, v⟩] = v := View.canon_unit_zero (S := S4x920x16x128) o4 _ v
theorem st9 {e : EltTy} (v : Vec Ideal S4x16x920 e) : View.canon (Val := Elt Ideal) [⟨r0_9, v⟩] = v := View.canon_unit_zero (S := S4x16x920) o3 _ v

/-! ## The stored forms of rows -/

theorem narrow_step (a5 a6 : Vec Ideal S1x2048 .f32) (u : FVec Ideal S4x920x2048 .f32) (a7 : Vec Ideal S4x1x2048 .f32)
    (b : Fin 4) (r : Fin 920) (c : Fin 2048) :
    k0_pay9 a6 u (k0_pay5 a5) a7 (ix3 b r c) = k0_pay8 a6 u (k0_pay5 a5) a7 (ix3 b r c) := rfl

theorem narrow_qkv (a5 a6 : Vec Ideal S1x2048 .f32) (u : FVec Ideal S4x920x2048 .f32) (a7 : Vec Ideal S4x1x2048 .f32)
    (a8 : Vec Ideal S2048x6144 .fp8e4m3) (a9 : Vec Ideal S1x6144 .f32) (b : Fin 4) (r : Fin 920) (c : Fin 6144) :
    k0_pay11 a6 u (k0_pay5 a5) a7 a8 a9 (ix3 b r c) = k0_pay10 a6 u (k0_pay5 a5) a7 a8 a9 (ix3 b r c) := rfl

/-- The key scales, turned so that the tokens come last. -/
theorem k_turn (Q : FVec Ideal S4x920x6144 .f32) (b : Fin 4) (h : Fin 16) (s : Fin 920) :
    k0_pay16 Q (ix3 b h s) = k0_pay14 Q (ix4 b s h 0) := turn_step (k0_pay14 Q) b h s

/-! ## The results -/

variable (a0 : Vec Ideal S4x920x2048 .fp8e4m3) (a1 : Vec Ideal S4x920x1 .f32) (a2 : Vec Ideal S4x920x2048 .bf16)
  (a3 : Vec Ideal S2048x2048 .fp8e4m3) (a4 a5 a6 : Vec Ideal S1x2048 .f32) (a7 : Vec Ideal S4x1x2048 .f32)
  (a8 : Vec Ideal S2048x6144 .fp8e4m3) (a9 : Vec Ideal S1x6144 .f32)
variable (b : Fin 4) (r : Fin 920)

theorem pay20_eq : k0_pay20 a0 a1 a2 a3 a4 a5 a6 a7 a8 a9 = k0_pay4 a2 a0 a1 a3 a4 := by
  unfold k0_pay20
  rw [ld0, ld0, ld1, ld2, ld3]

theorem pay21_eq : k0_pay21 a0 a1 a2 a3 a4 a5 a6 a7 a8 a9 = k0_pay5 a5 := by
  unfold k0_pay21
  rw [ld3]

theorem pay22_eq : k0_pay22 a0 a1 a2 a3 a4 a5 a6 a7 a8 a9
    = k0_pay10 a6 (k0_pay4 a2 a0 a1 a3 a4) (k0_pay5 a5) a7 a8 a9 := by
  unfold k0_pay22
  rw [pay20_eq, pay21_eq, ld3, ld4, ld5, ld6]

/-- The row of queries, keys and values. -/
theorem row_eq : (fun x => k0_pay22 a0 a1 a2 a3 a4 a5 a6 a7 a8 a9 (ix3 b r x))
    = Heads.qkv (params a3 a4 a5 a6 a8 a9) (token a0 a1 a2 a7 b r) := by
  rw [pay22_eq]
  exact funext fun x => pay10_apply a0 a1 a2 a3 a4 a5 a6 a7 a8 a9 b r x

theorem out10_apply (c : Fin 2048) : out0_10 a0 a1 a2 a3 a4 a5 a6 a7 a8 a9 (ix3 b r c)
    = Heads.resid (params a3 a4 a5 a6 a8 a9) (token a0 a1 a2 a7 b r) c := by
  unfold out0_10
  rw [st0, ld0, ld0, ld1, ld2, ld3]
  exact pay3_apply a0 a1 a2 a3 a4 a5 a6 a7 a8 a9 b r c

theorem out11_apply (c : Fin 2048) : out0_11 a0 a1 a2 a3 a4 a5 a6 a7 a8 a9 (ix3 b r c)
    = Quant.code (Heads.input (params a3 a4 a5 a6 a8 a9) (token a0 a1 a2 a7 b r)) c := by
  unfold out0_11
  rw [st0, pay20_eq, pay21_eq, ld3, ld4]
  exact (narrow_step a5 a6 _ a7 b r c).trans (pay8_apply a0 a1 a2 a3 a4 a5 a6 a7 a8 a9 b r c)

theorem out12_apply : out0_12 a0 a1 a2 a3 a4 a5 a6 a7 a8 a9 (ix3 b r 0)
    = Quant.scale (Heads.input (params a3 a4 a5 a6 a8 a9) (token a0 a1 a2 a7 b r)) := by
  unfold out0_12
  rw [st1, pay20_eq, pay21_eq, ld3, ld4]
  exact pay7_apply a0 a1 a2 a3 a4 a5 a6 a7 a8 a9 b r

theorem out13_apply (c : Fin 6144) : out0_13 a0 a1 a2 a3 a4 a5 a6 a7 a8 a9 (ix3 b r c)
    = Heads.qkv (params a3 a4 a5 a6 a8 a9) (token a0 a1 a2 a7 b r) c := by
  unfold out0_13
  rw [st7, pay20_eq, pay21_eq, ld3, ld4, ld5, ld6]
  exact (narrow_qkv a5 a6 _ a7 a8 a9 b r c).trans (pay10_apply a0 a1 a2 a3 a4 a5 a6 a7 a8 a9 b r c)

theorem out14_apply (h : Fin 16) (l : Fin 128) : out0_14 a0 a1 a2 a3 a4 a5 a6 a7 a8 a9 (ix4 b r h l)
    = Heads.code (Heads.head (Heads.qkv (params a3 a4 a5 a6 a8 a9) (token a0 a1 a2 a7 b r)) ⟨16 + h, by omega⟩ l)
      (Heads.scale (Heads.qkv (params a3 a4 a5 a6 a8 a9) (token a0 a1 a2 a7 b r)) ⟨16 + h, by omega⟩) := by
  unfold out0_14
  rw [st8, ← row_eq]
  exact k_code _ b r h l

theorem out15_apply (h : Fin 16) (l : Fin 128) : out0_15 a0 a1 a2 a3 a4 a5 a6 a7 a8 a9 (ix4 b r h l)
    = Heads.code (Heads.head (Heads.qkv (params a3 a4 a5 a6 a8 a9) (token a0 a1 a2 a7 b r)) ⟨32 + h, by omega⟩ l)
      (Heads.scale (Heads.qkv (params a3 a4 a5 a6 a8 a9) (token a0 a1 a2 a7 b r)) ⟨32 + h, by omega⟩) := by
  unfold out0_15
  rw [st8, ← row_eq]
  exact v_code _ b r h l

theorem out16_apply (h : Fin 16) : out0_16 a0 a1 a2 a3 a4 a5 a6 a7 a8 a9 (ix3 b h r)
    = Heads.scale (Heads.qkv (params a3 a4 a5 a6 a8 a9) (token a0 a1 a2 a7 b r)) ⟨16 + h, by omega⟩ := by
  unfold out0_16
  rw [st9, ← row_eq]
  exact (k_turn _ b h r).trans (k_scale _ b r h)

theorem out17_apply (h : Fin 16) : out0_17 a0 a1 a2 a3 a4 a5 a6 a7 a8 a9 (ix3 b h r)
    = Heads.scale (Heads.qkv (params a3 a4 a5 a6 a8 a9) (token a0 a1 a2 a7 b r)) ⟨32 + h, by omega⟩ := by
  unfold out0_17
  rw [st9, ← row_eq]
  exact (turn_step _ b h r).trans (v_scale _ b r h)

end QkvTRef
-- ==== Proof.QkvTWhere.lean ====
/-
  The second call's blocks: grid point `t` holds rows 184 (t mod 5) … 184 (t mod 5) + 183 of sequence `t / 5`.
-/
module

public import proofs.«01_k».proof.Proof.QkvTOuts
public import proofs.«01_k».proof.Proof.QkvTRefOut
public import Idealize.ShloMosaic.Lib.Pipeline.ValueKit.Geometry

@[expose] public section

set_option maxRecDepth 16384

noncomputable section

namespace QkvTArray

open Idealize.ShloMosaic Idealize.ShloMosaic.TcCoe Idealize.SL.Sem Cert.QkvTIdeal Cert.QkvTIdeal.Gen

/-! ## Where the blocks lie -/

theorem at0 : ∀ t : Fin cfg0.N, win0_0.index t = ![t.val / 5, t.val % 5, 0] := (by decide +kernel : ∀ t : Fin grid0.N, _)
theorem at1 : ∀ t : Fin cfg0.N, win0_1.index t = ![t.val / 5, t.val % 5, 0] := (by decide +kernel : ∀ t : Fin grid0.N, _)
theorem at2 : ∀ t : Fin cfg0.N, win0_2.index t = ![t.val / 5, t.val % 5, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val / 5, 0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![t.val / 5, t.val % 5, 0] := (by decide +kernel : ∀ t : Fin grid0.N, _)
theorem at11 : ∀ t : Fin cfg0.N, win0_11.index t = ![t.val / 5, t.val % 5, 0] := (by decide +kernel : ∀ t : Fin grid0.N, _)
theorem at12 : ∀ t : Fin cfg0.N, win0_12.index t = ![t.val / 5, t.val % 5, 0] := (by decide +kernel : ∀ t : Fin grid0.N, _)
theorem at13 : ∀ t : Fin cfg0.N, win0_13.index t = ![t.val / 5, t.val % 5, 0] := (by decide +kernel : ∀ t : Fin grid0.N, _)
theorem at14 : ∀ t : Fin cfg0.N, win0_14.index t = ![t.val / 5, t.val % 5, 0, 0] := (by decide +kernel : ∀ t : Fin grid0.N, _)
theorem at15 : ∀ t : Fin cfg0.N, win0_15.index t = ![t.val / 5, t.val % 5, 0, 0] := (by decide +kernel : ∀ t : Fin grid0.N, _)
theorem at16 : ∀ t : Fin cfg0.N, win0_16.index t = ![t.val / 5, 0, 0] := (by decide +kernel : ∀ t : Fin grid0.N, _)
theorem at17 : ∀ t : Fin cfg0.N, win0_17.index t = ![t.val / 5, 0, 0] := (by decide +kernel : ∀ t : Fin grid0.N, _)

theorem step_eq : ∀ t : Fin cfg0.N, (grid0.coords t 1).val = t.val % 5 := (by decide +kernel : ∀ t : Fin grid0.N, _)

section
variable (m : (ℓ : Loc nD τ sig) → Buf (Elt Ideal) ℓ)

/-- The sequence of a point. -/
def seq (t : Fin cfg0.N) : Fin 4 := ⟨t.val / 5, by have := (show t.val < 20 from t.isLt); omega⟩

/-- Row `r` of a point's blocks. -/
def row (t : Fin cfg0.N) (r : Fin 184) : Fin 920 := ⟨184 * (t.val % 5) + r, by omega⟩

/-! ## The blocks a point is given -/

theorem whole3 (c : Dev nD) (t : Fin cfg0.N) : iblk m c 3 t = m ((c : Thread nD τ).loc main_arg3) := by
  funext y
  blk_simp [iblk]
  show m ((c : Thread nD τ).loc main_arg3) _ = m ((c : Thread nD τ).loc main_arg3) _
  refine congrArg _ ?_
  blk_ext [at3]

theorem whole4 (c : Dev nD) (t : Fin cfg0.N) : iblk m c 4 t = m ((c : Thread nD τ).loc main_arg4) := by
  funext y
  blk_simp [iblk]
  show m ((c : Thread nD τ).loc main_arg4) _ = m ((c : Thread nD τ).loc main_arg4) _
  refine congrArg _ ?_
  blk_ext [at4]

theorem whole5 (c : Dev nD) (t : Fin cfg0.N) : iblk m c 5 t = m ((c : Thread nD τ).loc main_arg5) := by
  funext y
  blk_simp [iblk]
  show m ((c : Thread nD τ).loc main_arg5) _ = m ((c : Thread nD τ).loc main_arg5) _
  refine congrArg _ ?_
  blk_ext [at5]

theorem whole6 (c : Dev nD) (t : Fin cfg0.N) : iblk m c 6 t = m ((c : Thread nD τ).loc main_arg6) := by
  funext y
  blk_simp [iblk]
  show m ((c : Thread nD τ).loc main_arg6) _ = m ((c : Thread nD τ).loc main_arg6) _
  refine congrArg _ ?_
  blk_ext [at6]

theorem whole8 (c : Dev nD) (t : Fin cfg0.N) : iblk m c 8 t = m ((c : Thread nD τ).loc main_arg8) := by
  funext y
  blk_simp [iblk]
  show m ((c : Thread nD τ).loc main_arg8) _ = m ((c : Thread nD τ).loc main_arg8) _
  refine congrArg _ ?_
  blk_ext [at8]

theorem whole9 (c : Dev nD) (t : Fin cfg0.N) : iblk m c 9 t = m ((c : Thread nD τ).loc main_arg9) := by
  funext y
  blk_simp [iblk]
  show m ((c : Thread nD τ).loc main_arg9) _ = m ((c : Thread nD τ).loc main_arg9) _
  refine congrArg _ ?_
  blk_ext [at9]

/-- What every token meets. -/
abbrev P (c : Dev nD) : Heads.Params := QkvTRef.params (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))

/-- Row `q` of sequence `b`. -/
abbrev T (c : Dev nD) (b : Fin 4) (q : Fin 920) : Heads.Token := QkvTRef.token (m ((c : Thread nD τ).loc main_arg0)) (m ((c : Thread nD τ).loc main_arg1)) (m ((c : Thread nD τ).loc main_arg2)) (m ((c : Thread nD τ).loc main_arg7)) b q

theorem params_eq (c : Dev nD) (t : Fin cfg0.N) :
    QkvTBlock.params (iblk m c 3 t) (iblk m c 4 t) (iblk m c 5 t) (iblk m c 6 t) (iblk m c 8 t) (iblk m c 9 t) = P m c := by
  rw [whole3, whole4, whole5, whole6, whole8, whole9]
  rfl

/-- Token `r` of the blocks of point `t` is row `184 (t mod 5) + r` of sequence `t / 5`. -/
theorem token_eq (c : Dev nD) (t : Fin cfg0.N) (r : Fin 184) :
    QkvTBlock.token (iblk m c 0 t) (iblk m c 1 t) (iblk m c 2 t) (iblk m c 7 t) r = T m c (seq t) (row t r) := by
  have e0 : ∀ x, (iblk m c 0 t : Vec Ideal S1x184x2048 .fp8e4m3) (ix3 0 r x)
      = (m ((c : Thread nD τ).loc main_arg0) : Vec Ideal S4x920x2048 .fp8e4m3) (ix3 (seq t) (row t r) x) := by
    intro x
    blk_simp [iblk]
    show m ((c : Thread nD τ).loc main_arg0) _ = m ((c : Thread nD τ).loc main_arg0) _
    refine congrArg _ ?_
    blk_ext [at0, seq, row]
  have e1 : (iblk m c 1 t : Vec Ideal S1x184x1 .f32) (ix3 0 r 0)
      = (m ((c : Thread nD τ).loc main_arg1) : Vec Ideal S4x920x1 .f32) (ix3 (seq t) (row t r) 0) := by
    blk_simp [iblk]
    show m ((c : Thread nD τ).loc main_arg1) _ = m ((c : Thread nD τ).loc main_arg1) _
    refine congrArg _ ?_
    blk_ext [at1, seq, row]
  have e2 : ∀ x, (iblk m c 2 t : Vec Ideal S1x184x2048 .bf16) (ix3 0 r x)
      = (m ((c : Thread nD τ).loc main_arg2) : Vec Ideal S4x920x2048 .bf16) (ix3 (seq t) (row t r) x) := by
    intro x
    blk_simp [iblk]
    show m ((c : Thread nD τ).loc main_arg2) _ = m ((c : Thread nD τ).loc main_arg2) _
    refine congrArg _ ?_
    blk_ext [at2, seq, row]
  have e7 : ∀ x, (iblk m c 7 t : Vec Ideal S1x1x2048 .f32) (ix3 0 0 x)
      = (m ((c : Thread nD τ).loc main_arg7) : Vec Ideal S4x1x2048 .f32) (ix3 (seq t) 0 x) := by
    intro x
    blk_simp [iblk]
    show m ((c : Thread nD τ).loc main_arg7) _ = m ((c : Thread nD τ).loc main_arg7) _
    refine congrArg _ ?_
    blk_ext [at7, seq]
  unfold T QkvTBlock.token QkvTRef.token
  rw [e1]
  simp only [e0, e2, e7]

/-- Their queries, keys and values. -/
theorem rows_eq (c : Dev nD) (t : Fin cfg0.N) (r : Fin 184) :
    QkvTBlock.rows (iblk m c 0 t) (iblk m c 1 t) (iblk m c 2 t) (iblk m c 3 t) (iblk m c 4 t) (iblk m c 5 t) (iblk m c 6 t) (iblk m c 7 t) (iblk m c 8 t) (iblk m c 9 t) r = Heads.qkv (P m c) (T m c (seq t) (row t r)) := by
  unfold QkvTBlock.rows
  rw [params_eq, token_eq]

end
end QkvTArray
-- ==== Proof.QkvTPoints.lean ====
/-
  What the second call's points leave: their result blocks, and the scratch, which collects the scales of a sequence, 184 rows
  at each point.
-/
module

public import proofs.«01_k».proof.Proof.QkvTWhere

@[expose] public section

set_option maxRecDepth 16384

noncomputable section

namespace QkvTArray

open Idealize.ShloMosaic Idealize.ShloMosaic.TcCoe Idealize.SL.Sem Cert.QkvTIdeal Cert.QkvTIdeal.Gen

section
variable (m : (ℓ : Loc nD τ sig) → Buf (Elt Ideal) ℓ)

/-- The six result blocks of a point. -/
theorem point (c : Dev nD) (t : Fin cfg0.N) : QkvTBlock.Stores (iblk m c 0 t) (iblk m c 1 t) (iblk m c 2 t) (iblk m c 3 t) (iblk m c 4 t) (iblk m c 5 t) (iblk m c 6 t) (iblk m c 7 t) (iblk m c 8 t) (iblk m c 9 t)
    (outsAt0 m c t.val t.isLt).1 (outsAt0 m c t.val t.isLt).2.1 (outsAt0 m c t.val t.isLt).2.2.1 (outsAt0 m c t.val t.isLt).2.2.2.1
    (outsAt0 m c t.val t.isLt).2.2.2.2.1 (outsAt0 m c t.val t.isLt).2.2.2.2.2.1 := by
  by_cases h0 : t.val % 5 = 0
  · have h1 : ¬ t.val % 5 = 4 := by omega
    have e := outsAt0_A m c t h0 h1
    rw [e]
    dsimp only
    exact QkvTBlock.stores_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  · by_cases h1 : t.val % 5 = 4
    · have e := outsAt0_C m c t h0 h1
      rw [e]
      dsimp only
      exact QkvTBlock.stores_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) (outsAt0 m c (t.val - 1) (Nat.lt_of_le_of_lt (Nat.sub_le _ _) t.isLt)).2.2.2.2.2.2.2.2
    · have e := outsAt0_B m c t h0 h1
      rw [e]
      dsimp only
      exact QkvTBlock.stores_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h))

/-- The scratch after the first point of a sequence. -/
theorem first (c : Dev nD) (t : Fin cfg0.N) (h0 : t.val % 5 = 0) (h1 : ¬ t.val % 5 = 4) : QkvTBlock.Own (iblk m c 0 t) (iblk m c 1 t) (iblk m c 2 t) (iblk m c 3 t) (iblk m c 4 t) (iblk m c 5 t) (iblk m c 6 t) (iblk m c 7 t) (iblk m c 8 t) (iblk m c 9 t) (184 * (t.val % 5))
    (outsAt0 m c t.val t.isLt).2.2.2.2.2.2.2.2 := by
  have e := outsAt0_A m c t h0 h1
  rw [e]
  dsimp only
  have h := QkvTBlock.own_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  rw [step_eq t] at h
  exact h

/-- The scratch after a point between the first and the last. -/
theorem next (c : Dev nD) (t : Fin cfg0.N) (h0 : ¬ t.val % 5 = 0) (h1 : ¬ t.val % 5 = 4) : QkvTBlock.Own (iblk m c 0 t) (iblk m c 1 t) (iblk m c 2 t) (iblk m c 3 t) (iblk m c 4 t) (iblk m c 5 t) (iblk m c 6 t) (iblk m c 7 t) (iblk m c 8 t) (iblk m c 9 t) (184 * (t.val % 5))
    (outsAt0 m c t.val t.isLt).2.2.2.2.2.2.2.2 ∧ QkvTBlock.Kept (184 * (t.val % 5)) (outsAt0 m c t.val t.isLt).2.2.2.2.2.2.2.2
    (outsAt0 m c (t.val - 1) (Nat.lt_of_le_of_lt (Nat.sub_le _ _) t.isLt)).2.2.2.2.2.2.2.2 := by
  have e := outsAt0_B m c t h0 h1
  rw [e]
  dsimp only
  have h := QkvTBlock.own_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) (outsAt0 m c (t.val - 1) (Nat.lt_of_le_of_lt (Nat.sub_le _ _) t.isLt)).2.2.2.2.2.2.2.2
  rw [step_eq t] at h
  exact h

/-- The scales the last point stores, read off a scratch. -/
theorem end_point (c : Dev nD) (t : Fin cfg0.N) (h0 : ¬ t.val % 5 = 0) (h1 : t.val % 5 = 4) :
    ∃ V : Vec Ideal S920x128 .f32, QkvTBlock.Own (iblk m c 0 t) (iblk m c 1 t) (iblk m c 2 t) (iblk m c 3 t) (iblk m c 4 t) (iblk m c 5 t) (iblk m c 6 t) (iblk m c 7 t) (iblk m c 8 t) (iblk m c 9 t) (184 * (t.val % 5)) V ∧ QkvTBlock.Kept (184 * (t.val % 5)) V
    (outsAt0 m c (t.val - 1) (Nat.lt_of_le_of_lt (Nat.sub_le _ _) t.isLt)).2.2.2.2.2.2.2.2
      ∧ (∀ (h : Fin 16) (q : Fin 920), (outsAt0 m c t.val t.isLt).2.2.2.2.2.2.1 (ix3 0 h q) = V (ix2 q ⟨h, by omega⟩))
      ∧ ∀ (h : Fin 16) (q : Fin 920), (outsAt0 m c t.val t.isLt).2.2.2.2.2.2.2.1 (ix3 0 h q) = V (ix2 q ⟨16 + h, by omega⟩) := by
  have e := outsAt0_C m c t h0 h1
  rw [e]
  dsimp only
  have h := QkvTBlock.scales_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) (outsAt0 m c (t.val - 1) (Nat.lt_of_le_of_lt (Nat.sub_le _ _) t.isLt)).2.2.2.2.2.2.2.2
  rw [step_eq t] at h
  exact h

end
end QkvTArray
-- ==== Proof.QkvTArray.lean ====
/-
  The second call's result arrays: the blocks the points write back cover them.
-/
module

public import proofs.«01_k».proof.Proof.QkvTPoints
public import proofs.«01_k».proof.Proof.Gen.QkvTIdeal.Value

@[expose] public section

set_option maxRecDepth 16384

noncomputable section

namespace QkvTArray

open Idealize.ShloMosaic Idealize.ShloMosaic.TcCoe Idealize.SL.Sem Cert.QkvTIdeal Cert.QkvTIdeal.Gen

section
variable (m : (ℓ : Loc nD τ sig) → Buf (Elt Ideal) ℓ)

/-- The scratch after a point before the last of its sequence: the scales of the sequence's rows so far. -/
theorem scratch (c : Dev nD) : ∀ (n : ℕ) (t : Fin cfg0.N), t.val = n → n % 5 < 4 → ∀ (q : Fin 920) (l : Fin 128) (h : Fin 32),
    (q : ℕ) < 184 * (n % 5 + 1) → (l : ℕ) = h →
    (outsAt0 m c t.val t.isLt).2.2.2.2.2.2.2.2 (ix2 q l) = Heads.scale (Heads.qkv (P m c) (T m c (seq t) q)) ⟨16 + h, by omega⟩ := by
  intro n
  induction n with
  | zero =>
    intro t ht _ q l h hq hl
    refine (first m c t (by omega) (by omega) q ⟨q, by omega⟩ l h (by simp [ht]) hl).trans ?_
    rw [rows_eq, show row t ⟨q, by omega⟩ = q from Fin.ext (by simp [row, ht])]
  | succ n ih =>
    intro t ht hn q l h hq hl
    by_cases h0 : t.val % 5 = 0
    · refine (first m c t h0 (by omega) q ⟨q, by omega⟩ l h (by simp [h0]) hl).trans ?_
      rw [rows_eq, show row t ⟨q, by omega⟩ = q from Fin.ext (by simp [row, h0])]
    · obtain ⟨own, kept⟩ := next m c t h0 (by omega)
      by_cases hk : (q : ℕ) < 184 * (t.val % 5)
      · refine (kept q l hk).trans ((ih ⟨t.val - 1, Nat.lt_of_le_of_lt (Nat.sub_le _ _) t.isLt⟩ (by show t.val - 1 = n; omega) (by omega) q l h (by omega) hl).trans ?_)
        rw [show seq ⟨t.val - 1, Nat.lt_of_le_of_lt (Nat.sub_le _ _) t.isLt⟩ = seq t from Fin.ext (by show (t.val - 1) / 5 = t.val / 5; omega)]
      · refine (own q ⟨q - 184 * (t.val % 5), by omega⟩ l h (by show (q : ℕ) = 184 * (t.val % 5) + (q - 184 * (t.val % 5)); omega) hl).trans ?_
        rw [rows_eq, show row t ⟨q - 184 * (t.val % 5), by omega⟩ = q from
          Fin.ext (by show 184 * (t.val % 5) + (q - 184 * (t.val % 5)) = (q : ℕ); omega)]

/-- The scales the last point of a sequence writes back. -/
theorem last (c : Dev nD) (t : Fin cfg0.N) (ht : t.val % 5 = 4) (h : Fin 16) (q : Fin 920) :
    (outsAt0 m c t.val t.isLt).2.2.2.2.2.2.1 (ix3 0 h q) = Heads.scale (Heads.qkv (P m c) (T m c (seq t) q)) ⟨16 + h, by omega⟩
    ∧ (outsAt0 m c t.val t.isLt).2.2.2.2.2.2.2.1 (ix3 0 h q) = Heads.scale (Heads.qkv (P m c) (T m c (seq t) q)) ⟨32 + h, by omega⟩ := by
  obtain ⟨V, own, kept, e16, e17⟩ := end_point m c t (by omega) ht
  have key : ∀ (l : Fin 128) (k : Fin 32), (l : ℕ) = k → V (ix2 q l) = Heads.scale (Heads.qkv (P m c) (T m c (seq t) q)) ⟨16 + k, by omega⟩ := by
    intro l k hl
    by_cases hk : (q : ℕ) < 184 * (t.val % 5)
    · refine (kept q l hk).trans ((scratch m c _ ⟨t.val - 1, Nat.lt_of_le_of_lt (Nat.sub_le _ _) t.isLt⟩ rfl (by show (t.val - 1) % 5 < 4; omega) q l k
        (by show (q : ℕ) < 184 * ((t.val - 1) % 5 + 1); omega) hl).trans ?_)
      rw [show seq ⟨t.val - 1, Nat.lt_of_le_of_lt (Nat.sub_le _ _) t.isLt⟩ = seq t from Fin.ext (by show (t.val - 1) / 5 = t.val / 5; omega)]
    · refine (own q ⟨q - 184 * (t.val % 5), by omega⟩ l k (by show (q : ℕ) = 184 * (t.val % 5) + (q - 184 * (t.val % 5)); omega) hl).trans ?_
      rw [rows_eq, show row t ⟨q - 184 * (t.val % 5), by omega⟩ = q from
        Fin.ext (by show 184 * (t.val % 5) + (q - 184 * (t.val % 5)) = (q : ℕ); omega)]
  refine ⟨(e16 h q).trans (key _ ⟨h, by omega⟩ rfl), (e17 h q).trans ((key _ ⟨16 + h, by omega⟩ rfl).trans ?_)⟩
  exact congrArg _ (Fin.ext (by show 16 + (16 + (h : ℕ)) = 32 + h; omega))

/-! ## The result arrays -/

/-- A function of the ten argument arrays, at the launched ones. -/
abbrev of (c : Dev nD) {α : Type} (f : Vec Ideal S4x920x2048 .fp8e4m3 → Vec Ideal S4x920x1 .f32 → Vec Ideal S4x920x2048 .bf16 → Vec Ideal S2048x2048 .fp8e4m3
    → Vec Ideal S1x2048 .f32 → Vec Ideal S1x2048 .f32 → Vec Ideal S1x2048 .f32 → Vec Ideal S4x1x2048 .f32 → Vec Ideal S2048x6144 .fp8e4m3
    → Vec Ideal S1x6144 .f32 → α) : α :=
  f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The residual rows. -/
theorem final10 (c : Dev nD) : (dats m 0 c).arrAt 10 cfg0.N = of m c Cert.QkvTRefIdeal.Gen.out0_10 := by
  refine (dats m 0 c).arrAt_eq_of_covers 10 _ (by decide +kernel) fun t hf => ?_
  show ∀ y : S1x184x2048.Idx, _
  intro y
  idx_vars y
  obtain rfl : y0 = 0 := Subsingleton.elim _ _
  blk_simp
  rw [after0_10]
  have he : (win0_10.blk t).view.emb (ix3 0 y1 y2 : S1x184x2048.Idx) = ix3 (seq t) (row t y1) y2 := by
    blk_ext [at10, seq, row]
  rw [he]
  refine ((point m c t).resid y1 y2).trans (Eq.trans ?_ (QkvTRef.out10_apply ..).symm)
  rw [params_eq, token_eq]

/-- The codes of the product's left factor. -/
theorem final11 (c : Dev nD) : (dats m 0 c).arrAt 11 cfg0.N = of m c Cert.QkvTRefIdeal.Gen.out0_11 := by
  refine (dats m 0 c).arrAt_eq_of_covers 11 _ (by decide +kernel) fun t hf => ?_
  show ∀ y : S1x184x2048.Idx, _
  intro y
  idx_vars y
  obtain rfl : y0 = 0 := Subsingleton.elim _ _
  blk_simp
  rw [after0_11]
  have he : (win0_11.blk t).view.emb (ix3 0 y1 y2 : S1x184x2048.Idx) = ix3 (seq t) (row t y1) y2 := by
    blk_ext [at11, seq, row]
  rw [he]
  refine ((point m c t).code y1 y2).trans (Eq.trans ?_ (QkvTRef.out11_apply ..).symm)
  rw [params_eq, token_eq]

/-- Its rows' scales. -/
theorem final12 (c : Dev nD) : (dats m 0 c).arrAt 12 cfg0.N = of m c Cert.QkvTRefIdeal.Gen.out0_12 := by
  refine (dats m 0 c).arrAt_eq_of_covers 12 _ (by decide +kernel) fun t hf => ?_
  show ∀ y : S1x184x1.Idx, _
  intro y
  idx_vars y
  obtain rfl : y0 = 0 := Subsingleton.elim _ _
  obtain rfl : y2 = 0 := Subsingleton.elim _ _
  blk_simp
  rw [after0_12]
  have he : (win0_12.blk t).view.emb (ix3 0 y1 0 : S1x184x1.Idx) = ix3 (seq t) (row t y1) 0 := by
    blk_ext [at12, seq, row]
  rw [he]
  refine ((point m c t).scale y1).trans (Eq.trans ?_ (QkvTRef.out12_apply ..).symm)
  rw [params_eq, token_eq]

/-- The projected rows. -/
theorem final13 (c : Dev nD) : (dats m 0 c).arrAt 13 cfg0.N = of m c Cert.QkvTRefIdeal.Gen.out0_13 := by
  refine (dats m 0 c).arrAt_eq_of_covers 13 _ (by decide +kernel) fun t hf => ?_
  show ∀ y : S1x184x6144.Idx, _
  intro y
  idx_vars y
  obtain rfl : y0 = 0 := Subsingleton.elim _ _
  blk_simp
  rw [after0_13]
  have he : (win0_13.blk t).view.emb (ix3 0 y1 y2 : S1x184x6144.Idx) = ix3 (seq t) (row t y1) y2 := by
    blk_ext [at13, seq, row]
  rw [he]
  refine ((point m c t).qkv y1 y2).trans (Eq.trans ?_ (QkvTRef.out13_apply ..).symm)
  rw [rows_eq]

/-- The keys' codes. -/
theorem final14 (c : Dev nD) : (dats m 0 c).arrAt 14 cfg0.N = of m c Cert.QkvTRefIdeal.Gen.out0_14 := by
  refine (dats m 0 c).arrAt_eq_of_covers 14 _ (by decide +kernel) fun t hf => ?_
  show ∀ y : S1x184x16x128.Idx, _
  intro y
  idx_vars y
  obtain rfl : y0 = 0 := Subsingleton.elim _ _
  blk_simp
  rw [after0_14]
  have he : (win0_14.blk t).view.emb (ix4 0 y1 y2 y3 : S1x184x16x128.Idx) = ix4 (seq t) (row t y1) y2 y3 := by
    blk_ext [at14, seq, row]
  rw [he]
  refine ((point m c t).keys y1 y2 y3).trans (Eq.trans ?_ (QkvTRef.out14_apply ..).symm)
  rw [rows_eq]

/-- The values' codes. -/
theorem final15 (c : Dev nD) : (dats m 0 c).arrAt 15 cfg0.N = of m c Cert.QkvTRefIdeal.Gen.out0_15 := by
  refine (dats m 0 c).arrAt_eq_of_covers 15 _ (by decide +kernel) fun t hf => ?_
  show ∀ y : S1x184x16x128.Idx, _
  intro y
  idx_vars y
  obtain rfl : y0 = 0 := Subsingleton.elim _ _
  blk_simp
  rw [after0_15]
  have he : (win0_15.blk t).view.emb (ix4 0 y1 y2 y3 : S1x184x16x128.Idx) = ix4 (seq t) (row t y1) y2 y3 := by
    blk_ext [at15, seq, row]
  rw [he]
  refine ((point m c t).values y1 y2 y3).trans (Eq.trans ?_ (QkvTRef.out15_apply ..).symm)
  rw [rows_eq]

/-- The keys' scales. -/
theorem final16 (c : Dev nD) : (dats m 0 c).arrAt 16 cfg0.N = of m c Cert.QkvTRefIdeal.Gen.out0_16 := by
  refine (dats m 0 c).arrAt_eq_of_covers 16 _ (by decide +kernel) fun t hf => ?_
  have ht : t.val % 5 = 4 := (by decide +kernel : ∀ t : Fin cfg0.N, (cfg0.win 16).flush t = true → t.val % 5 = 4) t hf
  show ∀ y : S1x16x920.Idx, _
  intro y
  idx_vars y
  obtain rfl : y0 = 0 := Subsingleton.elim _ _
  blk_simp
  rw [after0_16]
  have he : (win0_16.blk t).view.emb (ix3 0 y1 y2 : S1x16x920.Idx) = ix3 (seq t) y1 y2 := by
    blk_ext [at16, seq]
  rw [he]
  exact (last m c t ht y1 y2).1.trans (QkvTRef.out16_apply ..).symm

/-- The values' scales. -/
theorem final17 (c : Dev nD) : (dats m 0 c).arrAt 17 cfg0.N = of m c Cert.QkvTRefIdeal.Gen.out0_17 := by
  refine (dats m 0 c).arrAt_eq_of_covers 17 _ (by decide +kernel) fun t hf => ?_
  have ht : t.val % 5 = 4 := (by decide +kernel : ∀ t : Fin cfg0.N, (cfg0.win 17).flush t = true → t.val % 5 = 4) t hf
  show ∀ y : S1x16x920.Idx, _
  intro y
  idx_vars y
  obtain rfl : y0 = 0 := Subsingleton.elim _ _
  blk_simp
  rw [after0_17]
  have he : (win0_17.blk t).view.emb (ix3 0 y1 y2 : S1x16x920.Idx) = ix3 (seq t) y1 y2 := by
    blk_ext [at17, seq]
  rw [he]
  exact (last m c t ht y1 y2).2.trans (QkvTRef.out17_apply ..).symm

end
end QkvTArray
-- ==== Proof.QkvTRefRun.lean ====
/-
  The second reference's run: it has one grid point, each window's block is its whole array, so every result array ends as the
  body's function of the argument arrays.
-/
module

public import proofs.«01_k».proof.Proof.Heads
public import proofs.«01_k».proof.Proof.Gen.QkvTRefIdeal.Frame
public import Idealize.ShloMosaic.Lib.Pipeline.Value
public import Idealize.ShloMosaic.Lib.Pipeline.ValueKit.Geometry

@[expose] public section

set_option maxRecDepth 16384

noncomputable section

namespace QkvTRefRun

open Idealize.ShloMosaic Idealize.ShloMosaic.TcCoe Idealize.SL.Sem Cert.QkvTRefIdeal Cert.QkvTRefIdeal.Gen

/-! ## Every block starts at zero -/

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0, 0] := (by decide +kernel : ∀ t : Fin grid0.N, _)
theorem at11 : ∀ t : Fin cfg0.N, win0_11.index t = ![0, 0, 0] := (by decide +kernel : ∀ t : Fin grid0.N, _)
theorem at12 : ∀ t : Fin cfg0.N, win0_12.index t = ![0, 0, 0] := (by decide +kernel : ∀ t : Fin grid0.N, _)
theorem at13 : ∀ t : Fin cfg0.N, win0_13.index t = ![0, 0, 0] := (by decide +kernel : ∀ t : Fin grid0.N, _)
theorem at14 : ∀ t : Fin cfg0.N, win0_14.index t = ![0, 0, 0, 0] := (by decide +kernel : ∀ t : Fin grid0.N, _)
theorem at15 : ∀ t : Fin cfg0.N, win0_15.index t = ![0, 0, 0, 0] := (by decide +kernel : ∀ t : Fin grid0.N, _)
theorem at16 : ∀ t : Fin cfg0.N, win0_16.index t = ![0, 0, 0] := (by decide +kernel : ∀ t : Fin grid0.N, _)
theorem at17 : ∀ t : Fin cfg0.N, win0_17.index t = ![0, 0, 0] := (by decide +kernel : ∀ t : Fin grid0.N, _)

section
variable (m : (ℓ : Loc nD τ sig) → Buf (Elt Ideal) ℓ) (ρ : Dev nD → PrngReg) (c : Dev nD) (t : Fin cfg0.N)

/-! ## The blocks the point is given -/

theorem whole0 : iblk m c 0 t = m ((c : Thread nD τ).loc main_arg0) := by
  funext y
  blk_simp [iblk]
  show m ((c : Thread nD τ).loc main_arg0) _ = m ((c : Thread nD τ).loc main_arg0) _
  refine congrArg _ ?_
  blk_ext [at0]

theorem whole1 : iblk m c 1 t = m ((c : Thread nD τ).loc main_arg1) := by
  funext y
  blk_simp [iblk]
  show m ((c : Thread nD τ).loc main_arg1) _ = m ((c : Thread nD τ).loc main_arg1) _
  refine congrArg _ ?_
  blk_ext [at1]

theorem whole2 : iblk m c 2 t = m ((c : Thread nD τ).loc main_arg2) := by
  funext y
  blk_simp [iblk]
  show m ((c : Thread nD τ).loc main_arg2) _ = m ((c : Thread nD τ).loc main_arg2) _
  refine congrArg _ ?_
  blk_ext [at2]

theorem whole3 : iblk m c 3 t = m ((c : Thread nD τ).loc main_arg3) := by
  funext y
  blk_simp [iblk]
  show m ((c : Thread nD τ).loc main_arg3) _ = m ((c : Thread nD τ).loc main_arg3) _
  refine congrArg _ ?_
  blk_ext [at3]

theorem whole4 : iblk m c 4 t = m ((c : Thread nD τ).loc main_arg4) := by
  funext y
  blk_simp [iblk]
  show m ((c : Thread nD τ).loc main_arg4) _ = m ((c : Thread nD τ).loc main_arg4) _
  refine congrArg _ ?_
  blk_ext [at4]

theorem whole5 : iblk m c 5 t = m ((c : Thread nD τ).loc main_arg5) := by
  funext y
  blk_simp [iblk]
  show m ((c : Thread nD τ).loc main_arg5) _ = m ((c : Thread nD τ).loc main_arg5) _
  refine congrArg _ ?_
  blk_ext [at5]

theorem whole6 : iblk m c 6 t = m ((c : Thread nD τ).loc main_arg6) := by
  funext y
  blk_simp [iblk]
  show m ((c : Thread nD τ).loc main_arg6) _ = m ((c : Thread nD τ).loc main_arg6) _
  refine congrArg _ ?_
  blk_ext [at6]

theorem whole7 : iblk m c 7 t = m ((c : Thread nD τ).loc main_arg7) := by
  funext y
  blk_simp [iblk]
  show m ((c : Thread nD τ).loc main_arg7) _ = m ((c : Thread nD τ).loc main_arg7) _
  refine congrArg _ ?_
  blk_ext [at7]

theorem whole8 : iblk m c 8 t = m ((c : Thread nD τ).loc main_arg8) := by
  funext y
  blk_simp [iblk]
  show m ((c : Thread nD τ).loc main_arg8) _ = m ((c : Thread nD τ).loc main_arg8) _
  refine congrArg _ ?_
  blk_ext [at8]

theorem whole9 : iblk m c 9 t = m ((c : Thread nD τ).loc main_arg9) := by
  funext y
  blk_simp [iblk]
  show m ((c : Thread nD τ).loc main_arg9) _ = m ((c : Thread nD τ).loc main_arg9) _
  refine congrArg _ ?_
  blk_ext [at9]

/-- A function of the ten argument arrays, at the launched ones. -/
abbrev of {α : Type} (f : Vec Ideal S4x920x2048 .fp8e4m3 → Vec Ideal S4x920x1 .f32 → Vec Ideal S4x920x2048 .bf16 → Vec Ideal S2048x2048 .fp8e4m3
    → Vec Ideal S1x2048 .f32 → Vec Ideal S1x2048 .f32 → Vec Ideal S1x2048 .f32 → Vec Ideal S4x1x2048 .f32 → Vec Ideal S2048x6144 .fp8e4m3
    → Vec Ideal S1x6144 .f32 → α) : α :=
  f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The result arrays -/

/-- The residual rows. -/
theorem final10 : (dats m 0 c).arrAt 10 cfg0.N = of m c out0_10 := by
  refine (dats m 0 c).arrAt_eq_of_covers 10 _ (by decide +kernel) fun t hf => ?_
  show ∀ y : S4x920x2048.Idx, _
  intro y
  idx_vars y
  blk_simp
  rw [after0_10, whole0, whole1, whole2, whole3, whole4, whole5, whole6, whole7, whole8, whole9]
  refine congrArg (of m c out0_10 : Vec Ideal S4x920x2048 _) (Eq.symm ?_)
  blk_ext [at10]

/-- The product's left factor. -/
theorem final11 : (dats m 0 c).arrAt 11 cfg0.N = of m c out0_11 := by
  refine (dats m 0 c).arrAt_eq_of_covers 11 _ (by decide +kernel) fun t hf => ?_
  show ∀ y : S4x920x2048.Idx, _
  intro y
  idx_vars y
  blk_simp
  rw [after0_11, whole0, whole1, whole2, whole3, whole4, whole5, whole6, whole7, whole8, whole9]
  refine congrArg (of m c out0_11 : Vec Ideal S4x920x2048 _) (Eq.symm ?_)
  blk_ext [at11]

/-- Its rows' scales. -/
theorem final12 : (dats m 0 c).arrAt 12 cfg0.N = of m c out0_12 := by
  refine (dats m 0 c).arrAt_eq_of_covers 12 _ (by decide +kernel) fun t hf => ?_
  show ∀ y : S4x920x1.Idx, _
  intro y
  idx_vars y
  blk_simp
  rw [after0_12, whole0, whole1, whole2, whole3, whole4, whole5, whole6, whole7, whole8, whole9]
  refine congrArg (of m c out0_12 : Vec Ideal S4x920x1 _) (Eq.symm ?_)
  blk_ext [at12]

/-- The projected rows. -/
theorem final13 : (dats m 0 c).arrAt 13 cfg0.N = of m c out0_13 := by
  refine (dats m 0 c).arrAt_eq_of_covers 13 _ (by decide +kernel) fun t hf => ?_
  show ∀ y : S4x920x6144.Idx, _
  intro y
  idx_vars y
  blk_simp
  rw [after0_13, whole0, whole1, whole2, whole3, whole4, whole5, whole6, whole7, whole8, whole9]
  refine congrArg (of m c out0_13 : Vec Ideal S4x920x6144 _) (Eq.symm ?_)
  blk_ext [at13]

/-- The keys' codes. -/
theorem final14 : (dats m 0 c).arrAt 14 cfg0.N = of m c out0_14 := by
  refine (dats m 0 c).arrAt_eq_of_covers 14 _ (by decide +kernel) fun t hf => ?_
  show ∀ y : S4x920x16x128.Idx, _
  intro y
  idx_vars y
  blk_simp
  rw [after0_14, whole0, whole1, whole2, whole3, whole4, whole5, whole6, whole7, whole8, whole9]
  refine congrArg (of m c out0_14 : Vec Ideal S4x920x16x128 _) (Eq.symm ?_)
  blk_ext [at14]

/-- The values' codes. -/
theorem final15 : (dats m 0 c).arrAt 15 cfg0.N = of m c out0_15 := by
  refine (dats m 0 c).arrAt_eq_of_covers 15 _ (by decide +kernel) fun t hf => ?_
  show ∀ y : S4x920x16x128.Idx, _
  intro y
  idx_vars y
  blk_simp
  rw [after0_15, whole0, whole1, whole2, whole3, whole4, whole5, whole6, whole7, whole8, whole9]
  refine congrArg (of m c out0_15 : Vec Ideal S4x920x16x128 _) (Eq.symm ?_)
  blk_ext [at15]

/-- The keys' scales. -/
theorem final16 : (dats m 0 c).arrAt 16 cfg0.N = of m c out0_16 := by
  refine (dats m 0 c).arrAt_eq_of_covers 16 _ (by decide +kernel) fun t hf => ?_
  show ∀ y : S4x16x920.Idx, _
  intro y
  idx_vars y
  blk_simp
  rw [after0_16, whole0, whole1, whole2, whole3, whole4, whole5, whole6, whole7, whole8, whole9]
  refine congrArg (of m c out0_16 : Vec Ideal S4x16x920 _) (Eq.symm ?_)
  blk_ext [at16]

/-- The values' scales. -/
theorem final17 : (dats m 0 c).arrAt 17 cfg0.N = of m c out0_17 := by
  refine (dats m 0 c).arrAt_eq_of_covers 17 _ (by decide +kernel) fun t hf => ?_
  show ∀ y : S4x16x920.Idx, _
  intro y
  idx_vars y
  blk_simp
  rw [after0_17, whole0, whole1, whole2, whole3, whole4, whole5, whole6, whole7, whole8, whole9]
  refine congrArg (of m c out0_17 : Vec Ideal S4x16x920 _) (Eq.symm ?_)
  blk_ext [at17]

/-- The run: each result array at its function of the arguments, the arguments unchanged. -/
theorem run : θ_run defs (onTc (τ := τ) (main (F := Ideal))) ⟨m, fun _ => 0, ρ⟩ fun r => ∀ c : Dev nD,
      r.2.mem ((c : Thread nD τ).loc main_v0_0) = of m c out0_10
      ∧ r.2.mem ((c : Thread nD τ).loc main_v0_1) = of m c out0_11
      ∧ r.2.mem ((c : Thread nD τ).loc main_v0_2) = of m c out0_12
      ∧ r.2.mem ((c : Thread nD τ).loc main_v0_3) = of m c out0_13
      ∧ r.2.mem ((c : Thread nD τ).loc main_v0_4) = of m c out0_14
      ∧ r.2.mem ((c : Thread nD τ).loc main_v0_5) = of m c out0_15
      ∧ r.2.mem ((c : Thread nD τ).loc main_v0_6) = of m c out0_16
      ∧ r.2.mem ((c : Thread nD τ).loc main_v0_7) = of m c out0_17
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final10 m c), ((h c).1 11).trans (final11 m c), ((h c).1 12).trans (final12 m c), ((h c).1 13).trans (final13 m c), ((h c).1 14).trans (final14 m c), ((h c).1 15).trans (final15 m c), ((h c).1 16).trans (final16 m c), ((h c).1 17).trans (final17 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c)))⟩) (run_main m ρ)

end
end QkvTRefRun
-- ==== Proof.QkvTEq.lean ====
/-
  The output projection and second product call and its reference, run from memories that agree on the arguments, end with equal results.
-/
module

public import proofs.«01_k».proof.Defs
public import proofs.«01_k».proof.Proof.QkvTArray
public import proofs.«01_k».proof.Proof.QkvTRefRun

@[expose] public section

set_option maxRecDepth 16384

noncomputable section

namespace QkvTEq

open Idealize.ShloMosaic Idealize.ShloMosaic.TcCoe Idealize.SL.Sem Cert.QkvTIdeal Cert.QkvTIdeal.Gen

theorem algebraic : Cert.algebraic_QkvTIdeal_QkvTRefIdeal (hQkvTIdeal := Cert.QkvTIdeal.Gen.facts)
    (hQkvTRefIdeal := Cert.QkvTRefIdeal.Gen.facts) := by
  intro m g m' g' _ hm
  refine ⟨fun c => (dats m 0 c).arrAt 10 cfg0.N,
    fun c => (dats m 0 c).arrAt 11 cfg0.N,
    fun c => (dats m 0 c).arrAt 12 cfg0.N,
    fun c => (dats m 0 c).arrAt 13 cfg0.N,
    fun c => (dats m 0 c).arrAt 14 cfg0.N,
    fun c => (dats m 0 c).arrAt 15 cfg0.N,
    fun c => (dats m 0 c).arrAt 16 cfg0.N,
    fun c => (dats m 0 c).arrAt 17 cfg0.N,
    Cert.QkvTIdeal.Value.run_blocks m g, (θ_run Cert.QkvTRefIdeal.defs _ _).mono (fun r h c => ?_) (QkvTRefRun.run m' g')⟩
  obtain ⟨r10, r11, r12, r13, r14, r15, r16, r17, kept⟩ := h c
  obtain ⟨h0, h1, h2, h3, h4, h5, h6, h7, h8, h9⟩ := hm c
  unfold QkvTRefRun.of at r10 r11 r12 r13 r14 r15 r16 r17
  rw [h0, h1, h2, h3, h4, h5, h6, h7, h8, h9] at r10 r11 r12 r13 r14 r15 r16 r17
  exact ⟨r10.trans (QkvTArray.final10 m c).symm, r11.trans (QkvTArray.final11 m c).symm,
    r12.trans (QkvTArray.final12 m c).symm, r13.trans (QkvTArray.final13 m c).symm,
    r14.trans (QkvTArray.final14 m c).symm, r15.trans (QkvTArray.final15 m c).symm,
    r16.trans (QkvTArray.final16 m c).symm, r17.trans (QkvTArray.final17 m c).symm, kept⟩

end QkvTEq
-- ==== Proof.MlpRow.lean ====
/-
  What the second half of the layer computes for ONE token: the output projection of the temporal attention added to
  the residual row, a layer norm, its codes and scale, the MLP's hidden row through the exact GELU, its codes and
  scale, and the row of the result.  Both programs are read entry by entry as these functions.
-/
module

public import proofs.«01_k».proof.Proof.Rows

@[expose] public section

set_option maxRecDepth 16384

noncomputable section

namespace MlpRow

open Idealize.ShloMosaic

/-- The weights, as functions of their indices. -/
structure Params where
  wo : Fin 2048 → Fin 2048 → EReal
  so : Fin 2048 → EReal
  g : Fin 2048 → EReal
  b : Fin 2048 → EReal
  w1 : Fin 2048 → Fin 8192 → EReal
  s1 : Fin 8192 → EReal
  b1 : Fin 8192 → EReal
  w2 : Fin 8192 → Fin 2048 → EReal
  s2 : Fin 2048 → EReal
  b2 : Fin 2048 → EReal

/-- The weight arrays as functions. -/
def params (a3 : Vec Ideal (⟨2, ![2048, 2048]⟩ : Shape) .fp8e4m3) (a4 a5 a6 : Vec Ideal (⟨2, ![1, 2048]⟩ : Shape) .f32)
    (a7 : Vec Ideal (⟨2, ![2048, 8192]⟩ : Shape) .fp8e4m3) (a8 a9 : Vec Ideal (⟨2, ![1, 8192]⟩ : Shape) .f32)
    (a10 : Vec Ideal (⟨2, ![8192, 2048]⟩ : Shape) .fp8e4m3) (a11 a12 : Vec Ideal (⟨2, ![1, 2048]⟩ : Shape) .f32) :
    Params where
  wo x c := a3 (ix2 x c)
  so c := a4 (ix2 0 c)
  g c := a5 (ix2 0 c)
  b c := a6 (ix2 0 c)
  w1 x c := a7 (ix2 x c)
  s1 c := a8 (ix2 0 c)
  b1 c := a9 (ix2 0 c)
  w2 x c := a10 (ix2 x c)
  s2 c := a11 (ix2 0 c)
  b2 c := a12 (ix2 0 c)

/-- One token: the codes and the scale of its attention row, and its residual row. -/
structure Token where
  q : Fin 2048 → EReal
  s : EReal
  h : Fin 2048 → EReal

variable (W : Params) (T : Token)

/-- The residual row after the output projection. -/
def resid (c : Fin 2048) : EReal := T.h c + Rows.mm T.q T.s W.wo W.so c

/-- Its layer norm. -/
def normed (c : Fin 2048) : EReal := Rows.layerNorm (resid W T) W.g W.b c

/-- The scale of the normed row. -/
def scale3 : EReal := Rows.scale (Rows.amax (normed W T))

/-- The codes of the normed row. -/
def code3 (c : Fin 2048) : EReal := Rows.code (normed W T c) (scale3 W T)

/-- The hidden row of a token with normed codes `q` and scale `s`. -/
def hidOf (q : Fin 2048 → EReal) (s : EReal) (c : Fin 8192) : EReal :=
  Rows.gelu (Rows.mm q s W.w1 W.s1 c + W.b1 c)

/-- The hidden row. -/
def hid (c : Fin 8192) : EReal := hidOf W (code3 W T) (scale3 W T) c

/-- The scale of the hidden row. -/
def scaleH : EReal := Rows.scale (Rows.amax (hid W T))

/-- The codes of the hidden row. -/
def codeH (c : Fin 8192) : EReal := Rows.code (hid W T c) (scaleH W T)

/-- The row of the result. -/
def out (c : Fin 2048) : EReal := resid W T c + Rows.mm (codeH W T) (scaleH W T) W.w2 W.s2 c + W.b2 c

end MlpRow
-- ==== Proof.MlpBlock.lean ====
/-
  The vectors one grid point of the kernel computes, from the blocks it is given, named as row functions: the residual,
  the normed row with its codes and scale, the eight parts of the hidden block, the running maxima per lane, and the
  hidden block's codes and scale.
-/
module

public import proofs.«01_k».proof.Proof.MlpRow
public import proofs.«01_k».proof.Proof.Gen.MlpIdeal.Skeleton

@[expose] public section

set_option maxRecDepth 16384

noncomputable section

namespace MlpBlock

open Idealize.ShloMosaic Cert.MlpIdeal Cert.MlpIdeal.Gen

/-- A part of the hidden block: codes `Q` with scales `S` against 1024 columns of the weights. -/
def part (S : FVec Ideal S160x1 .f32) (Q : FVec Ideal S160x2048 .fp8e4m3) (w : Vec Ideal S2048x1024 .fp8e4m3)
    (s b : Vec Ideal S1x1024 .f32) : FVec Ideal S160x1024 .f32 := fun i =>
  Rows.gelu (Rows.mm (fun x => Q (ix2 (i 0) x)) (S (ix2 (i 0) 0)) (fun x c => w (ix2 x c)) (fun c => s (ix2 0 c)) (i 1)
    + b (ix2 0 (i 1)))

/-- The running maxima per lane, after a part `f` onto `t`. -/
def top (t : FVec Ideal S160x128 .f32) (f : FVec Ideal S160x1024 .f32) : FVec Ideal S160x128 .f32 := fun i =>
  max (t i) (Rows.lanes (fun x => f (ix2 (i 0) x)) (i 1))

section
variable (S : FVec Ideal S160x1 .f32) (Q : FVec Ideal S160x2048 .fp8e4m3) (L A : FVec Ideal S160x2048 .f32)
  (w : Vec Ideal S2048x1024 .fp8e4m3) (s b : Vec Ideal S1x1024 .f32) (t : FVec Ideal S160x128 .f32)

/-- The kernel's chain of maxima over the eight lane groups of a part. -/
theorem chain (f : FVec Ideal S160x1024 .f32) (r : Fin 160) (l : Fin 128) (z : EReal) :
    max (max (max (max (max (max (max (max z (Rows.mag (f (ix2 r ⟨l, by omega⟩)))) (Rows.mag (f (ix2 r ⟨128 + l, by omega⟩))))
      (Rows.mag (f (ix2 r ⟨256 + l, by omega⟩)))) (Rows.mag (f (ix2 r ⟨384 + l, by omega⟩))))
      (Rows.mag (f (ix2 r ⟨512 + l, by omega⟩)))) (Rows.mag (f (ix2 r ⟨640 + l, by omega⟩))))
      (Rows.mag (f (ix2 r ⟨768 + l, by omega⟩)))) (Rows.mag (f (ix2 r ⟨896 + l, by omega⟩)))
    = max z (Rows.lanes (fun x => f (ix2 r x)) l) :=
  Rows.chain_eq (fun x => f (ix2 r x)) l z

theorem part0 : k0_pay12 (k0_pay10 L A w s b) (k0_pay11 L A w s b) = part (k0_pay4 A) (k0_pay7 L A) w s b := by
  funext j; idx_vars j
  pointwise [k0_pay12, k0_pay10, k0_pay11, k0_pay9, dot_S160x2048_S2048x1024_S160x1024_1_0_0_1_n_n]
  exact Rows.gelu_half _

theorem part1 : k0_pay18 (k0_pay16 S Q w s b) (k0_pay17 S Q w s b) (Scalar.ofBits .f32 0x3F800000#32) = part S Q w s b := by
  funext j; idx_vars j
  pointwise [k0_pay18, k0_pay16, k0_pay17, k0_pay15, dot_S160x2048_S2048x1024_S160x1024_1_0_0_1_n_n]
  exact Rows.gelu_half _

theorem part2 : k0_pay24 (k0_pay22 S Q w s b) (k0_pay23 S Q w s b) = part S Q w s b := by
  funext j; idx_vars j
  pointwise [k0_pay24, k0_pay22, k0_pay23, k0_pay21, dot_S160x2048_S2048x1024_S160x1024_1_0_0_1_n_n]
  exact Rows.gelu_half _

theorem part3 : k0_pay27 S Q w s b = part S Q w s b := by
  funext j; idx_vars j
  pointwise [k0_pay27, dot_S160x2048_S2048x1024_S160x1024_1_0_0_1_n_n]
  exact Rows.gelu_half _

theorem part4 : k0_pay30 S Q w s b = part S Q w s b := by
  funext j; idx_vars j
  pointwise [k0_pay30, dot_S160x2048_S2048x1024_S160x1024_1_0_0_1_n_n]
  exact Rows.gelu_half _

theorem part5 : k0_pay33 S Q w s b = part S Q w s b := by
  funext j; idx_vars j
  pointwise [k0_pay33, dot_S160x2048_S2048x1024_S160x1024_1_0_0_1_n_n]
  exact Rows.gelu_half _

theorem part6 : k0_pay36 S Q w s b = part S Q w s b := by
  funext j; idx_vars j
  pointwise [k0_pay36, dot_S160x2048_S2048x1024_S160x1024_1_0_0_1_n_n]
  exact Rows.gelu_half _

theorem part7 : k0_pay39 S Q w s b = part S Q w s b := by
  funext j; idx_vars j
  pointwise [k0_pay39, dot_S160x2048_S2048x1024_S160x1024_1_0_0_1_n_n]
  exact Rows.gelu_half _

theorem top0 : k0_pay14 t (k0_pay10 L A w s b) (k0_pay11 L A w s b) = top t (part (k0_pay4 A) (k0_pay7 L A) w s b) := by
  rw [← part0]
  funext j; idx_vars j
  pointwise [k0_pay14]
  exact chain _ _ _ _

theorem top1 : k0_pay20 t (k0_pay16 S Q w s b) (k0_pay17 S Q w s b) (Scalar.ofBits .f32 0x3F800000#32)
    = top t (part S Q w s b) := by
  rw [← part1]
  funext j; idx_vars j
  pointwise [k0_pay20]
  exact chain _ _ _ _

theorem top2 : k0_pay26 t (k0_pay22 S Q w s b) (k0_pay23 S Q w s b) = top t (part S Q w s b) := by
  rw [← part2]
  funext j; idx_vars j
  pointwise [k0_pay26]
  exact chain _ _ _ _

theorem top3 (f : FVec Ideal S160x1024 .f32) : k0_pay29 t f = top t f := by
  funext j; idx_vars j
  pointwise [k0_pay29]
  exact chain _ _ _ _

theorem top4 (f : FVec Ideal S160x1024 .f32) : k0_pay32 t f = top t f := by
  funext j; idx_vars j
  pointwise [k0_pay32]
  exact chain _ _ _ _

theorem top5 (f : FVec Ideal S160x1024 .f32) : k0_pay35 t f = top t f := by
  funext j; idx_vars j
  pointwise [k0_pay35]
  exact chain _ _ _ _

/-- The scale of the hidden block: the last two parts' maxima are split over two values. -/
theorem scale_apply (w' : Vec Ideal S2048x1024 .fp8e4m3) (s' b' : Vec Ideal S1x1024 .f32) (r : Fin 160) :
    k0_pay42 (k0_pay39 S Q w' s' b') (k0_pay41 S Q t (k0_pay36 S Q w s b) (k0_pay38 S Q w s b) w' s' b') (ix2 r 0)
    = Rows.scale (Finset.fold max (Ideal.ofBits FTy.f32 0xFF800000#32)
        (fun l => Rows.mag (top (top t (part S Q w s b)) (part S Q w' s' b') (ix2 r l))) Finset.univ) := by
  have h41 : ∀ l : Fin 128, k0_pay41 S Q t (k0_pay36 S Q w s b) (k0_pay38 S Q w s b) w' s' b' (ix2 r l)
      = max (top t (part S Q w s b) (ix2 r l)) (Rows.mag (part S Q w' s' b' (ix2 r ⟨l, by omega⟩))) := by
    intro l
    rw [← part6 S Q w s b, ← part7 S Q w' s' b']
    pointwise [k0_pay41, k0_pay38]
    exact congrArg (fun z => max z _) (chain (k0_pay36 S Q w s b) r l _)
  have h42 : ∀ l : Fin 128, top (top t (part S Q w s b)) (part S Q w' s' b') (ix2 r l)
      = max (top t (part S Q w s b) (ix2 r l)) (Rows.lanes (fun x => part S Q w' s' b' (ix2 r x)) l) := fun _ => rfl
  pointwise [k0_pay42]
  simp only [h41, part7, h42, ← chain]
  rfl

end
end MlpBlock
-- ==== Proof.MlpPoint.lean ====
/-
  One grid point of the kernel, as row functions of the token rows in its blocks: the codes and scale of the normed
  rows, the hidden block (written in eight parts of 1024 columns and read back whole) with its codes and scale, and the
  block of the result (written in two parts of 1024 columns).
-/
module

public import proofs.«01_k».proof.Proof.MlpBlock
public import proofs.«01_k».proof.Proof.Gen.MlpIdeal.Frame
public import Idealize.ShloMosaic.Lib.Pipeline.Value
public import Idealize.ShloMosaic.Lib.Pipeline.ValueKit.Tiles

@[expose] public section

set_option maxRecDepth 16384

noncomputable section

namespace MlpPoint

open Idealize.ShloMosaic Idealize.ShloMosaic.TcCoe Idealize.SL.Sem Cert.MlpIdeal Cert.MlpIdeal.Gen

theorem h2 : (![0, 0] : Fin 2 → Nat) = fun _ => 0 := funext fun a => by fin_cases a <;> rfl
theorem h3 : (![0, 0, 0] : Fin 3 → Nat) = fun _ => 0 := funext fun a => by fin_cases a <;> rfl

section
variable (x0 : Vec Ideal S20x8x2048 .fp8e4m3) (x1 : Vec Ideal S160x1 .f32) (x2 : Vec Ideal S160x2048 .f32) (x3 : Vec Ideal
  S2048x2048 .fp8e4m3) (x4 : Vec Ideal S1x2048 .f32) (x5 : Vec Ideal S1x2048 .f32) (x6 : Vec Ideal S1x2048 .f32) (x7 :
  Vec Ideal S2048x8192 .fp8e4m3) (x8 : Vec Ideal S1x8192 .f32) (x9 : Vec Ideal S1x8192 .f32) (x10 : Vec Ideal
  S8192x2048 .fp8e4m3) (x11 : Vec Ideal S1x2048 .f32) (x12 : Vec Ideal S1x2048 .f32)

/-- Token `r` of a block. -/
def token (r : Fin 160) : MlpRow.Token where
  q x := x0 (ix3 ⟨r / 8, by omega⟩ ⟨r % 8, by omega⟩ x)
  s := x1 (ix2 r 0)
  h x := x2 (ix2 r x)

/-- The normed block, the magnitudes of its entries, its scales and codes. -/
abbrev normedV : FVec Ideal S160x2048 .f32 := k0_pay2 x0 x2 x3 x1 x4 x5 x6
abbrev magV : FVec Ideal S160x2048 .f32 := k0_pay3 x0 x2 x3 x1 x4 x5 x6
abbrev scaleV : FVec Ideal S160x1 .f32 := k0_pay4 (magV x0 x1 x2 x3 x4 x5 x6)
abbrev codeV : FVec Ideal S160x2048 .fp8e4m3 := k0_pay7 (normedV x0 x1 x2 x3 x4 x5 x6) (magV x0 x1 x2 x3 x4 x5 x6)

variable (r : Fin 160)

theorem resid_apply (c : Fin 2048) : k0_pay1 x0 x2 x3 x1 x4 (ix2 r c)
    = MlpRow.resid (MlpRow.params x3 x4 x5 x6 x7 x8 x9 x10 x11 x12) (token x0 x1 x2 r) c := by
  pointwise [k0_pay1, dot_S160x2048_S2048x2048_S160x2048_1_0_0_1_n_n]
  rfl

theorem normed_apply (c : Fin 2048) : normedV x0 x1 x2 x3 x4 x5 x6 (ix2 r c)
    = MlpRow.normed (MlpRow.params x3 x4 x5 x6 x7 x8 x9 x10 x11 x12) (token x0 x1 x2 r) c := by
  pointwise [normedV, k0_pay2]
  simp only [resid_apply x0 x1 x2 x3 x4 x5 x6 x7 x8 x9 x10 x11 x12]
  exact Rows.layerNorm_recip (MlpRow.resid (MlpRow.params x3 x4 x5 x6 x7 x8 x9 x10 x11 x12) (token x0 x1 x2 r))
    (fun c => x5 (ix2 0 c)) (fun c => x6 (ix2 0 c)) c

theorem scale_apply : scaleV x0 x1 x2 x3 x4 x5 x6 (ix2 r 0)
    = MlpRow.scale3 (MlpRow.params x3 x4 x5 x6 x7 x8 x9 x10 x11 x12) (token x0 x1 x2 r) := by
  pointwise [scaleV, k0_pay4, magV, k0_pay3]
  have h : ∀ x, k0_pay2 x0 x2 x3 x1 x4 x5 x6 (ix2 r x)
      = MlpRow.normed (MlpRow.params x3 x4 x5 x6 x7 x8 x9 x10 x11 x12) (token x0 x1 x2 r) x :=
    normed_apply x0 x1 x2 x3 x4 x5 x6 x7 x8 x9 x10 x11 x12 r
  simp only [h]
  rw [show ∀ f : Fin 2048 → EReal, (fun x => FloatOps.absf (F := Ideal) (φ := .f32) (f x)) = fun x => max (f x) (-(f x))
    from fun _ => rfl, Rows.amax_eq_fold]
  rfl

theorem code_apply (c : Fin 2048) : codeV x0 x1 x2 x3 x4 x5 x6 (ix2 r c)
    = MlpRow.code3 (MlpRow.params x3 x4 x5 x6 x7 x8 x9 x10 x11 x12) (token x0 x1 x2 r) c := by
  have h := normed_apply x0 x1 x2 x3 x4 x5 x6 x7 x8 x9 x10 x11 x12 r
  have hs : k0_pay4 (magV x0 x1 x2 x3 x4 x5 x6) (ix2 r 0) = _ :=
    scale_apply x0 x1 x2 x3 x4 x5 x6 x7 x8 x9 x10 x11 x12 r
  pointwise [codeV, k0_pay7, k0_pay5]
  rw [h, hs]
  exact Rows.code_recip _ _

/-- The hidden block. -/
def hidV : FVec Ideal S160x8192 .f32 := fun i =>
  MlpRow.hid (MlpRow.params x3 x4 x5 x6 x7 x8 x9 x10 x11 x12) (token x0 x1 x2 (i 0)) (i 1)

/-- The part of it that starts at column `o`, from the weights' columns there. -/
abbrev partAt (o : ℕ) (h1 : ∀ a, (![0, o] : Fin 2 → ℕ) a + (![2048, 1024] : Fin 2 → ℕ) a ≤ S2048x8192.size a)
    (h2 : ∀ a, (![0, o] : Fin 2 → ℕ) a + (![1, 1024] : Fin 2 → ℕ) a ≤ S1x8192.size a) : FVec Ideal S160x1024 .f32 :=
  MlpBlock.part (scaleV x0 x1 x2 x3 x4 x5 x6) (codeV x0 x1 x2 x3 x4 x5 x6)
    (View.ld x7 (Rect.unit ![0, o] ![2048, 1024] h1)) (View.ld x8 (Rect.unit ![0, o] ![1, 1024] h2))
    (View.ld x9 (Rect.unit ![0, o] ![1, 1024] h2))

theorem partAt_apply (o : ℕ) (ho : o + 1024 ≤ 8192) (h1) (h2) (c : Fin 1024) :
    partAt x0 x1 x2 x3 x4 x5 x6 x7 x8 x9 o h1 h2 (ix2 r c)
    = hidV x0 x1 x2 x3 x4 x5 x6 x7 x8 x9 x10 x11 x12 (ix2 r ⟨o + c, by omega⟩) := by
  have e1 : ∀ x : Fin 2048, View.ld x7 (Rect.unit ![0, o] ![2048, 1024] h1) (ix2 x c) = x7 (ix2 x ⟨o + c, by omega⟩) :=
    fun x => View.ld_unit_apply_of x7 _ _ _ _ _ fun a => by fin_cases a <;> simp [ix2]
  have e2 : ∀ v : Vec Ideal S1x8192 .f32, View.ld v (Rect.unit ![0, o] ![1, 1024] h2) (ix2 0 c) = v (ix2 0 ⟨o + c, by omega⟩) :=
    fun v => View.ld_unit_apply_of v _ _ _ _ _ fun a => by fin_cases a <;> simp [ix2]
  exact congrArg Rows.gelu (congrArg₂ (· + ·) (congrArg₂ (· * ·) (congrArg₂ (· * ·)
    (Finset.sum_congr rfl fun x _ => congrArg₂ (· * ·)
      (code_apply x0 x1 x2 x3 x4 x5 x6 x7 x8 x9 x10 x11 x12 r x) (e1 x))
    (scale_apply x0 x1 x2 x3 x4 x5 x6 x7 x8 x9 x10 x11 x12 r)) (e2 x8)) (e2 x9))

end
end MlpPoint
-- ==== Proof.MlpOuts.lean ====
/-
  The five blocks one grid point of the kernel leaves, entry by entry.
-/
module

public import proofs.«01_k».proof.Proof.MlpPoint

@[expose] public section

set_option maxRecDepth 16384

noncomputable section

namespace MlpPoint

open Idealize.ShloMosaic Idealize.ShloMosaic.TcCoe Idealize.SL.Sem Cert.MlpIdeal Cert.MlpIdeal.Gen

/-! ## Loads and stores of whole blocks -/

theorem ld2048 (h) (v : Vec Ideal S160x2048 .f32) : View.ld v (Rect.unit ![0, 0] ![160, 2048] h) = v :=
  View.ld_unit_zero (S := S160x2048) h2 h v
theorem ld1 (h) (v : Vec Ideal S160x1 .f32) : View.ld v (Rect.unit ![0, 0] ![160, 1] h) = v :=
  View.ld_unit_zero (S := S160x1) h2 h v
theorem ldw (h) (v : Vec Ideal S2048x2048 .fp8e4m3) : View.ld v (Rect.unit ![0, 0] ![2048, 2048] h) = v :=
  View.ld_unit_zero (S := S2048x2048) h2 h v
theorem ldr (h) (v : Vec Ideal S1x2048 .f32) : View.ld v (Rect.unit ![0, 0] ![1, 2048] h) = v :=
  View.ld_unit_zero (S := S1x2048) h2 h v
theorem ld3 (h) (v : Vec Ideal S20x8x2048 .fp8e4m3) : View.ld v (Rect.unit ![0, 0, 0] ![20, 8, 2048] h) = v :=
  View.ld_unit_zero (S := S20x8x2048) h3 h v
theorem canon3 (h) (v : Vec Ideal S20x8x2048 .fp8e4m3) :
    View.canon (Val := Elt Ideal) [(⟨Rect.unit ![0, 0, 0] ![20, 8, 2048] h, v⟩ : View.Piece (Elt Ideal) S20x8x2048 .fp8e4m3)] = v :=
  View.canon_unit_zero (S := S20x8x2048) h3 h v
theorem canon4 (h) (v : Vec Ideal S20x8x8192 .fp8e4m3) :
    View.canon (Val := Elt Ideal) [(⟨Rect.unit ![0, 0, 0] ![20, 8, 8192] h, v⟩ : View.Piece (Elt Ideal) S20x8x8192 .fp8e4m3)] = v :=
  View.canon_unit_zero (S := S20x8x8192) h3 h v
theorem canon1 (h) (v : Vec Ideal S160x1 .f32) :
    View.canon (Val := Elt Ideal) [(⟨Rect.unit ![0, 0] ![160, 1] h, v⟩ : View.Piece (Elt Ideal) S160x1 .f32)] = v :=
  View.canon_unit_zero (S := S160x1) h2 h v

/-! ## The hidden block, read back from its eight parts -/

section
variable (x0 : Vec Ideal S20x8x2048 .fp8e4m3) (x1 : Vec Ideal S160x1 .f32) (x2 : Vec Ideal S160x2048 .f32) (x3 : Vec Ideal
  S2048x2048 .fp8e4m3) (x4 : Vec Ideal S1x2048 .f32) (x5 : Vec Ideal S1x2048 .f32) (x6 : Vec Ideal S1x2048 .f32) (x7 :
  Vec Ideal S2048x8192 .fp8e4m3) (x8 : Vec Ideal S1x8192 .f32) (x9 : Vec Ideal S1x8192 .f32) (x10 : Vec Ideal
  S8192x2048 .fp8e4m3) (x11 : Vec Ideal S1x2048 .f32) (x12 : Vec Ideal S1x2048 .f32)

theorem stored0 (u v : FVec Ideal S160x1024 .f32) : k0_pay13 u v = k0_pay12 u v := shapeCast_self _ _
theorem stored1 (u v : FVec Ideal S160x1024 .f32) (z : Ideal .f32) : k0_pay19 u v z = k0_pay18 u v z := shapeCast_self _ _
theorem stored2 (u v : FVec Ideal S160x1024 .f32) : k0_pay25 u v = k0_pay24 u v := shapeCast_self _ _
theorem stored3 (u : FVec Ideal S160x1024 .f32) : k0_pay28 u = u := shapeCast_self _ _
theorem stored4 (u : FVec Ideal S160x1024 .f32) : k0_pay31 u = u := shapeCast_self _ _

section
variable (S : FVec Ideal S160x1 .f32) (Q : FVec Ideal S160x2048 .fp8e4m3) (w : Vec Ideal S2048x1024 .fp8e4m3)
  (s b : Vec Ideal S1x1024 .f32)
theorem stored5 : k0_pay34 S Q w s b = k0_pay33 S Q w s b := shapeCast_self _ _
theorem stored6 : k0_pay37 S Q w s b = k0_pay36 S Q w s b := shapeCast_self _ _
theorem stored7 : k0_pay40 S Q w s b = k0_pay39 S Q w s b := shapeCast_self _ _
end

/-- A part, at an index of its rectangle, is the hidden block at that index of the whole. -/
theorem part_agree (o : ℕ) (ho : o + 1024 ≤ 8192) (h1) (h2) (h3 : ∀ a, (![0, o] : Fin 2 → ℕ) a + (![160, 1024] : Fin 2 → ℕ) a ≤ S160x8192.size a)
    (f : FVec Ideal S160x1024 .f32) (hf : f = partAt x0 x1 x2 x3 x4 x5 x6 x7 x8 x9 o h1 h2) (j : S160x1024.Idx) :
    f j = hidV x0 x1 x2 x3 x4 x5 x6 x7 x8 x9 x10 x11 x12 ((Rect.unit (s := S160x8192) ![0, o] ![160, 1024] h3).emb j) := by
  idx_vars j
  rw [hf, partAt_apply x0 x1 x2 x3 x4 x5 x6 x7 x8 x9 x10 x11 x12 j0 o ho h1 h2 j1]
  refine congrArg (hidV x0 x1 x2 x3 x4 x5 x6 x7 x8 x9 x10 x11 x12) (funext fun a => Fin.ext ?_)
  rw [Rect.emb_apply]
  fin_cases a <;> simp [ix2]

theorem hid_read {sg : RefSig} {κ : Kind} {sp : Space} (v : View sg κ sp S160x8192 .f32)
    (f0 f1 f2 f3 f4 f5 f6 f7 : FVec Ideal S160x1024 .f32)
    (e0 : f0 = partAt x0 x1 x2 x3 x4 x5 x6 x7 x8 x9 0 inb_S2048x8192_S2048x1024_0_0 inb_S1x8192_S1x1024_0_0)
    (e1 : f1 = partAt x0 x1 x2 x3 x4 x5 x6 x7 x8 x9 1024 inb_S2048x8192_S2048x1024_0_1024 inb_S1x8192_S1x1024_0_1024)
    (e2 : f2 = partAt x0 x1 x2 x3 x4 x5 x6 x7 x8 x9 2048 inb_S2048x8192_S2048x1024_0_2048 inb_S1x8192_S1x1024_0_2048)
    (e3 : f3 = partAt x0 x1 x2 x3 x4 x5 x6 x7 x8 x9 3072 inb_S2048x8192_S2048x1024_0_3072 inb_S1x8192_S1x1024_0_3072)
    (e4 : f4 = partAt x0 x1 x2 x3 x4 x5 x6 x7 x8 x9 4096 inb_S2048x8192_S2048x1024_0_4096 inb_S1x8192_S1x1024_0_4096)
    (e5 : f5 = partAt x0 x1 x2 x3 x4 x5 x6 x7 x8 x9 5120 inb_S2048x8192_S2048x1024_0_5120 inb_S1x8192_S1x1024_0_5120)
    (e6 : f6 = partAt x0 x1 x2 x3 x4 x5 x6 x7 x8 x9 6144 inb_S2048x8192_S2048x1024_0_6144 inb_S1x8192_S1x1024_0_6144)
    (e7 : f7 = partAt x0 x1 x2 x3 x4 x5 x6 x7 x8 x9 7168 inb_S2048x8192_S2048x1024_0_7168 inb_S1x8192_S1x1024_0_7168) :
    v.readCov (Val := Elt Ideal) [⟨Rect.unit ![0, 7168] ![160, 1024] inb_S160x8192_S160x1024_0_7168, f7⟩,
      ⟨Rect.unit ![0, 6144] ![160, 1024] inb_S160x8192_S160x1024_0_6144, f6⟩,
      ⟨Rect.unit ![0, 5120] ![160, 1024] inb_S160x8192_S160x1024_0_5120, f5⟩,
      ⟨Rect.unit ![0, 4096] ![160, 1024] inb_S160x8192_S160x1024_0_4096, f4⟩,
      ⟨Rect.unit ![0, 3072] ![160, 1024] inb_S160x8192_S160x1024_0_3072, f3⟩,
      ⟨Rect.unit ![0, 2048] ![160, 1024] inb_S160x8192_S160x1024_0_2048, f2⟩,
      ⟨Rect.unit ![0, 1024] ![160, 1024] inb_S160x8192_S160x1024_0_1024, f1⟩,
      ⟨Rect.unit ![0, 0] ![160, 1024] inb_S160x8192_S160x1024_0_0, f0⟩]
      (Rect.unit ![0, 0] ![160, 8192] inb_S160x8192_S160x8192_0_0).toLoadRect
    = hidV x0 x1 x2 x3 x4 x5 x6 x7 x8 x9 x10 x11 x12 := by
  have hc : ∀ y : S160x8192.Idx, ∃ q ∈ ([⟨Rect.unit ![0, 7168] ![160, 1024] inb_S160x8192_S160x1024_0_7168, f7⟩,
      ⟨Rect.unit ![0, 6144] ![160, 1024] inb_S160x8192_S160x1024_0_6144, f6⟩,
      ⟨Rect.unit ![0, 5120] ![160, 1024] inb_S160x8192_S160x1024_0_5120, f5⟩,
      ⟨Rect.unit ![0, 4096] ![160, 1024] inb_S160x8192_S160x1024_0_4096, f4⟩,
      ⟨Rect.unit ![0, 3072] ![160, 1024] inb_S160x8192_S160x1024_0_3072, f3⟩,
      ⟨Rect.unit ![0, 2048] ![160, 1024] inb_S160x8192_S160x1024_0_2048, f2⟩,
      ⟨Rect.unit ![0, 1024] ![160, 1024] inb_S160x8192_S160x1024_0_1024, f1⟩,
      ⟨Rect.unit ![0, 0] ![160, 1024] inb_S160x8192_S160x1024_0_0, f0⟩] : List (View.Piece (Elt Ideal) S160x8192 .f32)), y ∈ q.1.set :=
    fun y => View.cover_of_tiled_head _ _ _ rfl y
  rw [View.readCov_eq_canon_ld _ _ _ hc]
  refine (View.ld_unit_zero (S := S160x8192) h2 _ _).trans (funext fun y => ?_)
  refine View.canon_apply_of_pieces (hidV x0 x1 x2 x3 x4 x5 x6 x7 x8 x9 x10 x11 x12) _ ?_ y (hc y)
  intro q hq
  simp only [List.mem_cons, List.not_mem_nil, or_false] at hq
  rcases hq with rfl|rfl|rfl|rfl|rfl|rfl|rfl|rfl
  · exact part_agree x0 x1 x2 x3 x4 x5 x6 x7 x8 x9 x10 x11 x12 7168 (by norm_num) _ _
      inb_S160x8192_S160x1024_0_7168 f7 e7
  · exact part_agree x0 x1 x2 x3 x4 x5 x6 x7 x8 x9 x10 x11 x12 6144 (by norm_num) _ _
      inb_S160x8192_S160x1024_0_6144 f6 e6
  · exact part_agree x0 x1 x2 x3 x4 x5 x6 x7 x8 x9 x10 x11 x12 5120 (by norm_num) _ _
      inb_S160x8192_S160x1024_0_5120 f5 e5
  · exact part_agree x0 x1 x2 x3 x4 x5 x6 x7 x8 x9 x10 x11 x12 4096 (by norm_num) _ _
      inb_S160x8192_S160x1024_0_4096 f4 e4
  · exact part_agree x0 x1 x2 x3 x4 x5 x6 x7 x8 x9 x10 x11 x12 3072 (by norm_num) _ _
      inb_S160x8192_S160x1024_0_3072 f3 e3
  · exact part_agree x0 x1 x2 x3 x4 x5 x6 x7 x8 x9 x10 x11 x12 2048 (by norm_num) _ _
      inb_S160x8192_S160x1024_0_2048 f2 e2
  · exact part_agree x0 x1 x2 x3 x4 x5 x6 x7 x8 x9 x10 x11 x12 1024 (by norm_num) _ _
      inb_S160x8192_S160x1024_0_1024 f1 e1
  · exact part_agree x0 x1 x2 x3 x4 x5 x6 x7 x8 x9 x10 x11 x12 0 (by norm_num) _ _
      inb_S160x8192_S160x1024_0_0 f0 e0

/-- The running maxima after the eight parts. -/
def tops : FVec Ideal S160x128 .f32 :=
  MlpBlock.top (MlpBlock.top (MlpBlock.top (MlpBlock.top (MlpBlock.top (MlpBlock.top (MlpBlock.top (MlpBlock.top k0_pay8
    (partAt x0 x1 x2 x3 x4 x5 x6 x7 x8 x9 0 inb_S2048x8192_S2048x1024_0_0 inb_S1x8192_S1x1024_0_0))
    (partAt x0 x1 x2 x3 x4 x5 x6 x7 x8 x9 1024 inb_S2048x8192_S2048x1024_0_1024 inb_S1x8192_S1x1024_0_1024))
    (partAt x0 x1 x2 x3 x4 x5 x6 x7 x8 x9 2048 inb_S2048x8192_S2048x1024_0_2048 inb_S1x8192_S1x1024_0_2048))
    (partAt x0 x1 x2 x3 x4 x5 x6 x7 x8 x9 3072 inb_S2048x8192_S2048x1024_0_3072 inb_S1x8192_S1x1024_0_3072))
    (partAt x0 x1 x2 x3 x4 x5 x6 x7 x8 x9 4096 inb_S2048x8192_S2048x1024_0_4096 inb_S1x8192_S1x1024_0_4096))
    (partAt x0 x1 x2 x3 x4 x5 x6 x7 x8 x9 5120 inb_S2048x8192_S2048x1024_0_5120 inb_S1x8192_S1x1024_0_5120))
    (partAt x0 x1 x2 x3 x4 x5 x6 x7 x8 x9 6144 inb_S2048x8192_S2048x1024_0_6144 inb_S1x8192_S1x1024_0_6144))
    (partAt x0 x1 x2 x3 x4 x5 x6 x7 x8 x9 7168 inb_S2048x8192_S2048x1024_0_7168 inb_S1x8192_S1x1024_0_7168)

theorem lanes_part (r : Fin 160) (l : Fin 128) (o : ℕ) (ho : o + 1024 ≤ 8192) (h1) (h2) :
    Rows.lanes (fun x => partAt x0 x1 x2 x3 x4 x5 x6 x7 x8 x9 o h1 h2 (ix2 r x)) l
    = Rows.lanes (fun x => MlpRow.hid (MlpRow.params x3 x4 x5 x6 x7 x8 x9 x10 x11 x12) (token x0 x1 x2 r) ⟨o + x, by omega⟩) l :=
  congrArg (fun f => Rows.lanes f l) (funext fun x => partAt_apply x0 x1 x2 x3 x4 x5 x6 x7 x8 x9 x10 x11 x12 r o ho h1 h2 x)

theorem tops_le (r : Fin 160) (l : Fin 128) (z : EReal) : tops x0 x1 x2 x3 x4 x5 x6 x7 x8 x9 (ix2 r l) ≤ z
    ↔ 0 ≤ z ∧ ∀ k : Fin 8, Rows.lanes (fun x => MlpRow.hid (MlpRow.params x3 x4 x5 x6 x7 x8 x9 x10 x11 x12) (token x0 x1 x2 r) ⟨1024 * k + x, by omega⟩) l ≤ z := by
  have e0 : k0_pay8 (F := Ideal) (ix2 r l) = 0 := by pointwise [k0_pay8]
  have et : ∀ (t : FVec Ideal S160x128 .f32) (f : FVec Ideal S160x1024 .f32), MlpBlock.top t f (ix2 r l) ≤ z
      ↔ t (ix2 r l) ≤ z ∧ Rows.lanes (fun x => f (ix2 r x)) l ≤ z := fun t f => max_le_iff
  unfold tops
  simp only [et, e0, and_assoc]
  rw [lanes_part x0 x1 x2 x3 x4 x5 x6 x7 x8 x9 x10 x11 x12 r l 0 (by norm_num)]
  rw [lanes_part x0 x1 x2 x3 x4 x5 x6 x7 x8 x9 x10 x11 x12 r l 1024 (by norm_num)]
  rw [lanes_part x0 x1 x2 x3 x4 x5 x6 x7 x8 x9 x10 x11 x12 r l 2048 (by norm_num)]
  rw [lanes_part x0 x1 x2 x3 x4 x5 x6 x7 x8 x9 x10 x11 x12 r l 3072 (by norm_num)]
  rw [lanes_part x0 x1 x2 x3 x4 x5 x6 x7 x8 x9 x10 x11 x12 r l 4096 (by norm_num)]
  rw [lanes_part x0 x1 x2 x3 x4 x5 x6 x7 x8 x9 x10 x11 x12 r l 5120 (by norm_num)]
  rw [lanes_part x0 x1 x2 x3 x4 x5 x6 x7 x8 x9 x10 x11 x12 r l 6144 (by norm_num)]
  rw [lanes_part x0 x1 x2 x3 x4 x5 x6 x7 x8 x9 x10 x11 x12 r l 7168 (by norm_num)]
  refine and_congr_right fun _ => ⟨?_, fun h => ?_⟩
  · rintro ⟨h0, h1, h2, h3, h4, h5, h6, h7⟩ k
    fin_cases k
    exacts [h0, h1, h2, h3, h4, h5, h6, h7]
  · exact ⟨h 0, h 1, h 2, h 3, h 4, h 5, h 6, h 7⟩

/-- The scale of the hidden block, from the running maxima. -/
theorem scaleH_eq (r : Fin 160) :
    Rows.scale (Finset.fold max (Ideal.ofBits FTy.f32 0xFF800000#32) (fun l => Rows.mag (tops x0 x1 x2 x3 x4 x5 x6 x7 x8 x9 (ix2 r l))) Finset.univ)
    = MlpRow.scaleH (MlpRow.params x3 x4 x5 x6 x7 x8 x9 x10 x11 x12) (token x0 x1 x2 r) :=
  congrArg Rows.scale (Rows.lanes_amax _ _ fun l z => tops_le x0 x1 x2 x3 x4 x5 x6 x7 x8 x9 x10 x11 x12 r l z)

/-- The scale of the hidden block, as the kernel computes it from its last two parts and the maxima before them. -/
theorem scaleH_apply (r : Fin 160) (w6 w7 : Vec Ideal S2048x1024 .fp8e4m3) (s6 b6 s7 b7 : Vec Ideal S1x1024 .f32)
    (t : FVec Ideal S160x128 .f32)
    (h : MlpBlock.top (MlpBlock.top t (MlpBlock.part (scaleV x0 x1 x2 x3 x4 x5 x6) (codeV x0 x1 x2 x3 x4 x5 x6) w6 s6 b6))
      (MlpBlock.part (scaleV x0 x1 x2 x3 x4 x5 x6) (codeV x0 x1 x2 x3 x4 x5 x6) w7 s7 b7) = tops x0 x1 x2 x3 x4 x5 x6 x7 x8 x9) :
    k0_pay42 (k0_pay39 (scaleV x0 x1 x2 x3 x4 x5 x6) (codeV x0 x1 x2 x3 x4 x5 x6) w7 s7 b7)
      (k0_pay41 (scaleV x0 x1 x2 x3 x4 x5 x6) (codeV x0 x1 x2 x3 x4 x5 x6) t (k0_pay36 (scaleV x0 x1 x2 x3 x4 x5 x6) (codeV x0 x1 x2 x3 x4 x5 x6) w6 s6 b6)
        (k0_pay38 (scaleV x0 x1 x2 x3 x4 x5 x6) (codeV x0 x1 x2 x3 x4 x5 x6) w6 s6 b6) w7 s7 b7) (ix2 r 0)
    = MlpRow.scaleH (MlpRow.params x3 x4 x5 x6 x7 x8 x9 x10 x11 x12) (token x0 x1 x2 r) := by
  rw [MlpBlock.scale_apply, h, scaleH_eq x0 x1 x2 x3 x4 x5 x6 x7 x8 x9 x10 x11 x12]

/-- The codes of the hidden block, of row `r`. -/
theorem pay43_apply (r : Fin 160) (k : Fin 8192) (w6 w7 : Vec Ideal S2048x1024 .fp8e4m3) (s6 b6 s7 b7 : Vec Ideal S1x1024 .f32)
    (t : FVec Ideal S160x128 .f32)
    (h : MlpBlock.top (MlpBlock.top t (MlpBlock.part (scaleV x0 x1 x2 x3 x4 x5 x6) (codeV x0 x1 x2 x3 x4 x5 x6) w6 s6 b6))
      (MlpBlock.part (scaleV x0 x1 x2 x3 x4 x5 x6) (codeV x0 x1 x2 x3 x4 x5 x6) w7 s7 b7) = tops x0 x1 x2 x3 x4 x5 x6 x7 x8 x9) :
    k0_pay43 (k0_pay39 (scaleV x0 x1 x2 x3 x4 x5 x6) (codeV x0 x1 x2 x3 x4 x5 x6) w7 s7 b7)
      (k0_pay41 (scaleV x0 x1 x2 x3 x4 x5 x6) (codeV x0 x1 x2 x3 x4 x5 x6) t (k0_pay36 (scaleV x0 x1 x2 x3 x4 x5 x6) (codeV x0 x1 x2 x3 x4 x5 x6) w6 s6 b6)
        (k0_pay38 (scaleV x0 x1 x2 x3 x4 x5 x6) (codeV x0 x1 x2 x3 x4 x5 x6) w6 s6 b6) w7 s7 b7) (hidV x0 x1 x2 x3 x4 x5 x6 x7 x8 x9 x10 x11 x12) (ix2 r k)
    = MlpRow.codeH (MlpRow.params x3 x4 x5 x6 x7 x8 x9 x10 x11 x12) (token x0 x1 x2 r) k := by
  have e := scaleH_apply x0 x1 x2 x3 x4 x5 x6 x7 x8 x9 x10 x11 x12 r w6 w7 s6 b6 s7 b7 t h
  pointwise [k0_pay43]
  rw [e]
  exact Rows.code_recip _ _

/-- The same, in the shape the block is stored in. -/
theorem codeH_apply (p : Fin 20) (s : Fin 8) (k : Fin 8192) (w6 w7 : Vec Ideal S2048x1024 .fp8e4m3)
    (s6 b6 s7 b7 : Vec Ideal S1x1024 .f32) (t : FVec Ideal S160x128 .f32)
    (h : MlpBlock.top (MlpBlock.top t (MlpBlock.part (scaleV x0 x1 x2 x3 x4 x5 x6) (codeV x0 x1 x2 x3 x4 x5 x6) w6 s6 b6))
      (MlpBlock.part (scaleV x0 x1 x2 x3 x4 x5 x6) (codeV x0 x1 x2 x3 x4 x5 x6) w7 s7 b7) = tops x0 x1 x2 x3 x4 x5 x6 x7 x8 x9) :
    k0_pay44 (k0_pay39 (scaleV x0 x1 x2 x3 x4 x5 x6) (codeV x0 x1 x2 x3 x4 x5 x6) w7 s7 b7)
      (k0_pay41 (scaleV x0 x1 x2 x3 x4 x5 x6) (codeV x0 x1 x2 x3 x4 x5 x6) t (k0_pay36 (scaleV x0 x1 x2 x3 x4 x5 x6) (codeV x0 x1 x2 x3 x4 x5 x6) w6 s6 b6)
        (k0_pay38 (scaleV x0 x1 x2 x3 x4 x5 x6) (codeV x0 x1 x2 x3 x4 x5 x6) w6 s6 b6) w7 s7 b7) (hidV x0 x1 x2 x3 x4 x5 x6 x7 x8 x9 x10 x11 x12) (ix3 p s k)
    = MlpRow.codeH (MlpRow.params x3 x4 x5 x6 x7 x8 x9 x10 x11 x12) (token x0 x1 x2 ⟨p * 8 + s, by omega⟩) k := by
  pointwise [k0_pay44]
  exact pay43_apply x0 x1 x2 x3 x4 x5 x6 x7 x8 x9 x10 x11 x12 ⟨p * 8 + s, by omega⟩ k w6 w7 s6 b6 s7 b7 t h

/-! ## The block of the result, stored in two halves -/

/-- The block of the result. -/
def outV : FVec Ideal S20x8x2048 .bf16 := fun i =>
  MlpRow.out (MlpRow.params x3 x4 x5 x6 x7 x8 x9 x10 x11 x12) (token x0 x1 x2 ⟨i 0 * 8 + i 1, by have h0 := (i 0).isLt; have h1 := (i 1).isLt; simp at h0 h1; omega⟩) (i 2)

/-- The columns of the result block from 0 on. -/
theorem out_half0 (S : FVec Ideal S160x1 .f32) (C : FVec Ideal S160x8192 .fp8e4m3)
    (hS : ∀ r, S (ix2 r 0) = MlpRow.scaleH (MlpRow.params x3 x4 x5 x6 x7 x8 x9 x10 x11 x12) (token x0 x1 x2 r))
    (hC : ∀ r k, C (ix2 r k) = MlpRow.codeH (MlpRow.params x3 x4 x5 x6 x7 x8 x9 x10 x11 x12) (token x0 x1 x2 r) k) (j : S20x8x1024.Idx) :
    k0_pay46 (k0_pay1 x0 x2 x3 x1 x4) S C
      (View.ld x10 (Rect.unit ![0, 0] ![8192, 1024] inb_S8192x2048_S8192x1024_0_0))
      (View.ld x11 (Rect.unit ![0, 0] ![1, 1024] inb_S1x2048_S1x1024_0_0))
      (View.ld x12 (Rect.unit ![0, 0] ![1, 1024] inb_S1x2048_S1x1024_0_0)) j
    = outV x0 x1 x2 x3 x4 x5 x6 x7 x8 x9 x10 x11 x12 ((Rect.unit (s := S20x8x2048) ![0, 0, 0] ![20, 8, 1024] inb_S20x8x2048_S20x8x1024_0_0_0).emb j) := by
  idx_vars j
  have ej : (Rect.unit (s := S20x8x2048) ![0, 0, 0] ![20, 8, 1024] inb_S20x8x2048_S20x8x1024_0_0_0).emb (ix3 j0 j1 j2)
      = ix3 j0 j1 ⟨0 + j2, by omega⟩ := by
    refine funext fun a => Fin.ext ?_
    rw [Rect.emb_apply]
    fin_cases a <;> simp [ix3]
  rw [ej]
  pointwise [k0_pay46, dot_S160x8192_S8192x1024_S160x1024_1_0_0_1_n_n]
  simp only [hS, hC]
  exact congrArg₂ (· + ·) (congrArg₂ (· + ·) (resid_apply x0 x1 x2 x3 x4 x5 x6 x7 x8 x9 x10 x11 x12 _ _) rfl) rfl

/-- The columns of the result block from 1024 on. -/
theorem out_half1024 (S : FVec Ideal S160x1 .f32) (C : FVec Ideal S160x8192 .fp8e4m3)
    (hS : ∀ r, S (ix2 r 0) = MlpRow.scaleH (MlpRow.params x3 x4 x5 x6 x7 x8 x9 x10 x11 x12) (token x0 x1 x2 r))
    (hC : ∀ r k, C (ix2 r k) = MlpRow.codeH (MlpRow.params x3 x4 x5 x6 x7 x8 x9 x10 x11 x12) (token x0 x1 x2 r) k) (j : S20x8x1024.Idx) :
    k0_pay47 (k0_pay1 x0 x2 x3 x1 x4) S C
      (View.ld x10 (Rect.unit ![0, 1024] ![8192, 1024] inb_S8192x2048_S8192x1024_0_1024))
      (View.ld x11 (Rect.unit ![0, 1024] ![1, 1024] inb_S1x2048_S1x1024_0_1024))
      (View.ld x12 (Rect.unit ![0, 1024] ![1, 1024] inb_S1x2048_S1x1024_0_1024)) j
    = outV x0 x1 x2 x3 x4 x5 x6 x7 x8 x9 x10 x11 x12 ((Rect.unit (s := S20x8x2048) ![0, 0, 1024] ![20, 8, 1024] inb_S20x8x2048_S20x8x1024_0_0_1024).emb j) := by
  idx_vars j
  have ej : (Rect.unit (s := S20x8x2048) ![0, 0, 1024] ![20, 8, 1024] inb_S20x8x2048_S20x8x1024_0_0_1024).emb (ix3 j0 j1 j2)
      = ix3 j0 j1 ⟨1024 + j2, by omega⟩ := by
    refine funext fun a => Fin.ext ?_
    rw [Rect.emb_apply]
    fin_cases a <;> simp [ix3]
  rw [ej]
  pointwise [k0_pay47, dot_S160x8192_S8192x1024_S160x1024_1_0_0_1_n_n]
  simp only [hS, hC]
  exact congrArg₂ (· + ·) (congrArg₂ (· + ·) (resid_apply x0 x1 x2 x3 x4 x5 x6 x7 x8 x9 x10 x11 x12 _ _) rfl) rfl

/-- The two halves read back. -/
theorem canon_halves (u v : FVec Ideal S20x8x1024 .bf16)
    (hu : ∀ j, u j = outV x0 x1 x2 x3 x4 x5 x6 x7 x8 x9 x10 x11 x12 ((Rect.unit (s := S20x8x2048) ![0, 0, 1024] ![20, 8, 1024] inb_S20x8x2048_S20x8x1024_0_0_1024).emb j))
    (hv : ∀ j, v j = outV x0 x1 x2 x3 x4 x5 x6 x7 x8 x9 x10 x11 x12 ((Rect.unit (s := S20x8x2048) ![0, 0, 0] ![20, 8, 1024] inb_S20x8x2048_S20x8x1024_0_0_0).emb j)) :
    View.canon (Val := Elt Ideal) ([⟨Rect.unit ![0, 0, 1024] ![20, 8, 1024] inb_S20x8x2048_S20x8x1024_0_0_1024, u⟩,
      ⟨Rect.unit ![0, 0, 0] ![20, 8, 1024] inb_S20x8x2048_S20x8x1024_0_0_0, v⟩] : List (View.Piece (Elt Ideal) S20x8x2048 .bf16))
    = outV x0 x1 x2 x3 x4 x5 x6 x7 x8 x9 x10 x11 x12 := by
  have hc : ∀ y : S20x8x2048.Idx, ∃ q ∈ ([⟨Rect.unit ![0, 0, 1024] ![20, 8, 1024] inb_S20x8x2048_S20x8x1024_0_0_1024, u⟩,
      ⟨Rect.unit ![0, 0, 0] ![20, 8, 1024] inb_S20x8x2048_S20x8x1024_0_0_0, v⟩] : List (View.Piece (Elt Ideal) S20x8x2048 .bf16)),
      y ∈ q.1.set := fun y => View.cover_of_tiled_head _ _ _ rfl y
  refine funext fun y => View.canon_apply_of_pieces (outV x0 x1 x2 x3 x4 x5 x6 x7 x8 x9 x10 x11 x12) _ ?_ y (hc y)
  intro q hq
  simp only [List.mem_cons, List.not_mem_nil, or_false] at hq
  rcases hq with rfl | rfl
  · exact hu
  · exact hv

end

/-! ## The blocks -/

section
variable (c : Dev nD) (i : grid0.Coords) (arg1 : Memref sig .tc .vmem S20x8x2048 .fp8e4m3) (harg1 : arg1.IsWhole) (arg2 :
  Memref sig .tc .vmem S160x1 .f32) (harg2 : arg2.IsWhole) (arg3 : Memref sig .tc .vmem S160x2048 .f32) (harg3 :
  arg3.IsWhole) (arg4 : Memref sig .tc .vmem S2048x2048 .fp8e4m3) (harg4 : arg4.IsWhole) (arg5 : Memref sig .tc .vmem
  S1x2048 .f32) (harg5 : arg5.IsWhole) (arg6 : Memref sig .tc .vmem S1x2048 .f32) (harg6 : arg6.IsWhole) (arg7 :
  Memref sig .tc .vmem S1x2048 .f32) (harg7 : arg7.IsWhole) (arg8 : Memref sig .tc .vmem S2048x8192 .fp8e4m3) (harg8 :
  arg8.IsWhole) (arg9 : Memref sig .tc .vmem S1x8192 .f32) (harg9 : arg9.IsWhole) (arg10 : Memref sig .tc .vmem
  S1x8192 .f32) (harg10 : arg10.IsWhole) (arg11 : Memref sig .tc .vmem S8192x2048 .fp8e4m3) (harg11 : arg11.IsWhole)
  (arg12 : Memref sig .tc .vmem S1x2048 .f32) (harg12 : arg12.IsWhole) (arg13 : Memref sig .tc .vmem S1x2048 .f32)
  (harg13 : arg13.IsWhole) (arg14 : Memref sig .tc .vmem S20x8x2048 .bf16) (harg14 : arg14.IsWhole) (arg15 : Memref
  sig .tc .vmem S20x8x2048 .fp8e4m3) (harg15 : arg15.IsWhole) (arg16 : Memref sig .tc .vmem S160x1 .f32) (harg16 :
  arg16.IsWhole) (arg17 : Memref sig .tc .vmem S20x8x8192 .fp8e4m3) (harg17 : arg17.IsWhole) (arg18 : Memref sig .tc
  .vmem S160x1 .f32) (harg18 : arg18.IsWhole) (arg19 : Memref sig .tc .vmem S160x8192 .f32) (harg19 : arg19.IsWhole)
variable (x0 : Vec Ideal S20x8x2048 .fp8e4m3) (x1 : Vec Ideal S160x1 .f32) (x2 : Vec Ideal S160x2048 .f32) (x3 : Vec Ideal
  S2048x2048 .fp8e4m3) (x4 : Vec Ideal S1x2048 .f32) (x5 : Vec Ideal S1x2048 .f32) (x6 : Vec Ideal S1x2048 .f32) (x7 :
  Vec Ideal S2048x8192 .fp8e4m3) (x8 : Vec Ideal S1x8192 .f32) (x9 : Vec Ideal S1x8192 .f32) (x10 : Vec Ideal
  S8192x2048 .fp8e4m3) (x11 : Vec Ideal S1x2048 .f32) (x12 : Vec Ideal S1x2048 .f32)

/-- The codes of the normed block. -/
theorem out14_apply (p : Fin 20) (s : Fin 8) (k : Fin 2048) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    (ix3 p s k)
    = MlpRow.code3 (MlpRow.params x3 x4 x5 x6 x7 x8 x9 x10 x11 x12) (token x0 x1 x2 ⟨p * 8 + s, by omega⟩) k := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, ld2048, ld1, ldw, ldr, ld3]
  rw [canon3]
  pointwise [k0_pay6]
  exact code_apply x0 x1 x2 x3 x4 x5 x6 x7 x8 x9 x10 x11 x12 ⟨p * 8 + s, by omega⟩ k

/-- Their scales. -/
theorem out15_apply (r : Fin 160) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    (ix2 r 0) = MlpRow.scale3 (MlpRow.params x3 x4 x5 x6 x7 x8 x9 x10 x11 x12) (token x0 x1 x2 r) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, ld2048, ld1, ldw, ldr, ld3]
  rw [canon1]
  exact scale_apply x0 x1 x2 x3 x4 x5 x6 x7 x8 x9 x10 x11 x12 r

/-- The scales of the hidden block. -/
theorem out17_apply (r : Fin 160) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    (ix2 r 0) = MlpRow.scaleH (MlpRow.params x3 x4 x5 x6 x7 x8 x9 x10 x11 x12) (token x0 x1 x2 r) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, ld2048, ld1, ldw, ldr, ld3]
  rw [canon1]
  simp only [MlpBlock.top0, MlpBlock.top1, MlpBlock.top2, MlpBlock.top3, MlpBlock.top4, MlpBlock.top5,
    MlpBlock.part3, MlpBlock.part4, MlpBlock.part5]
  exact scaleH_apply x0 x1 x2 x3 x4 x5 x6 x7 x8 x9 x10 x11 x12 r _ _ _ _ _ _ _ rfl

/-- The codes of the hidden block. -/
theorem out16_apply (p : Fin 20) (s : Fin 8) (k : Fin 8192) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    (ix3 p s k)
    = MlpRow.codeH (MlpRow.params x3 x4 x5 x6 x7 x8 x9 x10 x11 x12) (token x0 x1 x2 ⟨p * 8 + s, by omega⟩) k := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, ld2048, ld1, ldw, ldr, ld3]
  rw [canon4, hid_read x0 x1 x2 x3 x4 x5 x6 x7 x8 x9 x10 x11 x12]
  rotate_left
  · rw [stored0, MlpBlock.part0]
  · rw [stored1]; exact MlpBlock.part1 ..
  · rw [stored2, MlpBlock.part2]
  · rw [stored3, MlpBlock.part3]
  · rw [stored4, MlpBlock.part4]
  · rw [stored5, MlpBlock.part5]
  · rw [stored6, MlpBlock.part6]
  · rw [stored7, MlpBlock.part7]
  simp only [MlpBlock.top0, MlpBlock.top1, MlpBlock.top2, MlpBlock.top3, MlpBlock.top4, MlpBlock.top5,
    MlpBlock.part3, MlpBlock.part4, MlpBlock.part5]
  exact codeH_apply x0 x1 x2 x3 x4 x5 x6 x7 x8 x9 x10 x11 x12 p s k _ _ _ _ _ _ _ rfl

/-- The block of the result. -/
theorem out13_apply : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12
    = outV x0 x1 x2 x3 x4 x5 x6 x7 x8 x9 x10 x11 x12 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12)]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread, ld2048, ld1, ldw, ldr, ld3]
  rw [hid_read x0 x1 x2 x3 x4 x5 x6 x7 x8 x9 x10 x11 x12]
  rotate_left
  · rw [stored0, MlpBlock.part0]
  · rw [stored1]; exact MlpBlock.part1 ..
  · rw [stored2, MlpBlock.part2]
  · rw [stored3, MlpBlock.part3]
  · rw [stored4, MlpBlock.part4]
  · rw [stored5, MlpBlock.part5]
  · rw [stored6, MlpBlock.part6]
  · rw [stored7, MlpBlock.part7]
  simp only [MlpBlock.top0, MlpBlock.top1, MlpBlock.top2, MlpBlock.top3, MlpBlock.top4, MlpBlock.top5,
    MlpBlock.part3, MlpBlock.part4, MlpBlock.part5]
  exact canon_halves x0 x1 x2 x3 x4 x5 x6 x7 x8 x9 x10 x11 x12 _ _
    (out_half1024 x0 x1 x2 x3 x4 x5 x6 x7 x8 x9 x10 x11 x12 _ _ (fun r => scaleH_apply x0 x1 x2 x3 x4 x5 x6 x7 x8 x9 x10 x11 x12 r _ _ _ _ _ _ _ rfl)
      fun r k => pay43_apply x0 x1 x2 x3 x4 x5 x6 x7 x8 x9 x10 x11 x12 r k _ _ _ _ _ _ _ rfl)
    (out_half0 x0 x1 x2 x3 x4 x5 x6 x7 x8 x9 x10 x11 x12 _ _ (fun r => scaleH_apply x0 x1 x2 x3 x4 x5 x6 x7 x8 x9 x10 x11 x12 r _ _ _ _ _ _ _ rfl)
      fun r k => pay43_apply x0 x1 x2 x3 x4 x5 x6 x7 x8 x9 x10 x11 x12 r k _ _ _ _ _ _ _ rfl)

end
end MlpPoint
-- ==== Proof.MlpRef.lean ====
/-
  The reference's five results read at an index: entry by entry they are the row functions of `MlpRow`, of the token the
  index names.
-/
module

public import proofs.«01_k».proof.Proof.MlpRow
public import proofs.«01_k».proof.Proof.Gen.MlpRefIdeal.Value

@[expose] public section

set_option maxRecDepth 16384

noncomputable section

namespace MlpRef

open Idealize.ShloMosaic Cert.MlpRefIdeal Cert.MlpRefIdeal.Gen

section
variable (a0 : Vec Ideal S460x8x2048 .fp8e4m3) (a1 : Vec Ideal S3680x1 .f32) (a2 : Vec Ideal S3680x2048 .f32)
  (a3 : Vec Ideal S2048x2048 .fp8e4m3) (a4 a5 a6 : Vec Ideal S1x2048 .f32) (a7 : Vec Ideal S2048x8192 .fp8e4m3)
  (a8 a9 : Vec Ideal S1x8192 .f32) (a10 : Vec Ideal S8192x2048 .fp8e4m3) (a11 a12 : Vec Ideal S1x2048 .f32)

/-- Token `r` of the arguments. -/
def token (r : Fin 3680) : MlpRow.Token where
  q x := a0 (ix3 ⟨r / 8, by omega⟩ ⟨r % 8, by omega⟩ x)
  s := a1 (ix2 r 0)
  h x := a2 (ix2 r x)

variable (r : Fin 3680)

theorem pay5_apply (c : Fin 2048) : k0_pay5 a0 a2 a1 a3 a4 (ix2 r c)
    = MlpRow.resid (MlpRow.params a3 a4 a5 a6 a7 a8 a9 a10 a11 a12) (token a0 a1 a2 r) c := by
  pointwise [k0_pay5, dot_S3680x2048_S2048x2048_S3680x2048_1_0_0_1_n_n]
  rfl

theorem pay6_apply (c : Fin 2048) : k0_pay6 a0 a2 a1 a3 a4 a5 a6 (ix2 r c)
    = MlpRow.normed (MlpRow.params a3 a4 a5 a6 a7 a8 a9 a10 a11 a12) (token a0 a1 a2 r) c := by
  pointwise [k0_pay6]
  simp only [pay5_apply a0 a1 a2 a3 a4 a5 a6 a7 a8 a9 a10 a11 a12]
  rfl

theorem pay7_apply : k0_pay7 a0 a2 a1 a3 a4 a5 a6 (ix2 r 0)
    = Rows.amax (MlpRow.normed (MlpRow.params a3 a4 a5 a6 a7 a8 a9 a10 a11 a12) (token a0 a1 a2 r)) := by
  pointwise [k0_pay7]
  simp only [pay6_apply a0 a1 a2 a3 a4 a5 a6 a7 a8 a9 a10 a11 a12]
  exact Rows.amax_eq_fold _

theorem cst_zero : (Scalar.ofBits .f32 0x00000000#32 : Ideal .f32) = 0 := Ideal.ofBits_zero_f32

theorem pay8_apply (v : FVec Ideal S3680x1 .f32) : k0_pay8 v 0 (ix2 r 0) = Rows.scale (v (ix2 r 0)) := by
  pointwise [k0_pay8]
  rfl

theorem pay9_apply (u : FVec Ideal S3680x2048 .f32) (v : FVec Ideal S3680x1 .f32) (c : Fin 2048) :
    k0_pay9 u v 0 (ix2 r c) = Rows.code (u (ix2 r c)) (Rows.scale (v (ix2 r 0))) := by
  pointwise [k0_pay9]
  simp only [pay8_apply]
  rfl

theorem pay11_apply (u : FVec Ideal S3680x2048 .f32) (v : FVec Ideal S3680x1 .f32) (c : Fin 8192) :
    k0_pay11 u v 0 a7 a8 a9 (ix2 r c)
    = MlpRow.hidOf (MlpRow.params a3 a4 a5 a6 a7 a8 a9 a10 a11 a12) (fun x => Rows.code (u (ix2 r x)) (Rows.scale (v (ix2 r 0))))
        (Rows.scale (v (ix2 r 0))) c := by
  pointwise [k0_pay11, dot_S3680x2048_S2048x8192_S3680x8192_1_0_0_1_n_n]
  simp only [pay8_apply, pay9_apply]
  rfl

theorem pay12_apply (u : FVec Ideal S3680x2048 .f32) (v : FVec Ideal S3680x1 .f32) :
    k0_pay12 u v 0 a7 a8 a9 (ix2 r 0) = Rows.amax (fun c => k0_pay11 u v 0 a7 a8 a9 (ix2 r c)) := by
  pointwise [k0_pay12]
  exact Rows.amax_eq_fold _

theorem pay1_apply (v : FVec Ideal S3680x1 .f32) : k0_pay1 v (ix2 r 0) = Rows.scale (v (ix2 r 0)) := by
  pointwise [k0_pay1]
  rfl

theorem pay2_apply (u : FVec Ideal S3680x8192 .f32) (v : FVec Ideal S3680x1 .f32) (c : Fin 8192) :
    k0_pay2 u v (ix2 r c) = Rows.code (u (ix2 r c)) (Rows.scale (v (ix2 r 0))) := by
  pointwise [k0_pay2]
  simp only [pay1_apply]
  rfl

theorem pay4_apply (h : FVec Ideal S3680x2048 .f32) (u : FVec Ideal S3680x8192 .f32) (v : FVec Ideal S3680x1 .f32)
    (p : Fin 460) (s : Fin 8) (c : Fin 2048) :
    k0_pay4 h u v a10 a11 a12 (ix3 p s c)
    = h (ix2 ⟨p * 8 + s, by omega⟩ c)
      + Rows.mm (fun x => Rows.code (u (ix2 ⟨p * 8 + s, by omega⟩ x)) (Rows.scale (v (ix2 ⟨p * 8 + s, by omega⟩ 0))))
          (Rows.scale (v (ix2 ⟨p * 8 + s, by omega⟩ 0))) (fun x c => a10 (ix2 x c)) (fun c => a11 (ix2 0 c)) c
      + a12 (ix2 0 c) := by
  pointwise [k0_pay4, dot_S3680x8192_S8192x2048_S3680x2048_1_0_0_1_n_n]
  simp only [pay1_apply, pay2_apply]
  rfl

theorem h2 : (![0, 0] : Fin 2 → Nat) = fun _ => 0 := funext fun a => by fin_cases a <;> rfl
theorem h3 : (![0, 0, 0] : Fin 3 → Nat) = fun _ => 0 := funext fun a => by fin_cases a <;> rfl

/-- The layer norm the body names, at an index. -/
theorem normed_apply (c : Fin 2048) : k0_pay13 a0 a1 a2 a3 a4 a5 a6 a7 a8 a9 a10 a11 a12 (ix2 r c)
    = MlpRow.normed (MlpRow.params a3 a4 a5 a6 a7 a8 a9 a10 a11 a12) (token a0 a1 a2 r) c := by
  unfold k0_pay13
  simp only [View.ld_unit_zero (S := S3680x2048) h2, View.ld_unit_zero (S := S3680x1) h2,
    View.ld_unit_zero (S := S2048x2048) h2, View.ld_unit_zero (S := S1x2048) h2, View.ld_unit_zero (S := S460x8x2048) h3]
  exact pay6_apply a0 a1 a2 a3 a4 a5 a6 a7 a8 a9 a10 a11 a12 r c

/-- Its largest magnitude. -/
theorem top_apply : k0_pay14 a0 a1 a2 a3 a4 a5 a6 a7 a8 a9 a10 a11 a12 (ix2 r 0)
    = Rows.amax (MlpRow.normed (MlpRow.params a3 a4 a5 a6 a7 a8 a9 a10 a11 a12) (token a0 a1 a2 r)) := by
  unfold k0_pay14
  simp only [View.ld_unit_zero (S := S3680x2048) h2, View.ld_unit_zero (S := S3680x1) h2,
    View.ld_unit_zero (S := S2048x2048) h2, View.ld_unit_zero (S := S1x2048) h2, View.ld_unit_zero (S := S460x8x2048) h3]
  exact pay7_apply a0 a1 a2 a3 a4 a5 a6 a7 a8 a9 a10 a11 a12 r

/-- The hidden array, at an index. -/
theorem hid_apply (c : Fin 8192) : k0_pay15 a0 a1 a2 a3 a4 a5 a6 a7 a8 a9 a10 a11 a12 (ix2 r c)
    = MlpRow.hid (MlpRow.params a3 a4 a5 a6 a7 a8 a9 a10 a11 a12) (token a0 a1 a2 r) c := by
  unfold k0_pay15
  simp only [View.ld_unit_zero (S := S2048x8192) h2, View.ld_unit_zero (S := S1x8192) h2, cst_zero]
  rw [pay11_apply a3 a4 a5 a6 a7 a8 a9 a10 a11 a12, top_apply]
  simp only [normed_apply]
  rfl

/-- The hidden row's largest magnitude. -/
theorem hidTop_apply : k0_pay16 a0 a1 a2 a3 a4 a5 a6 a7 a8 a9 a10 a11 a12 (ix2 r 0)
    = Rows.amax (MlpRow.hid (MlpRow.params a3 a4 a5 a6 a7 a8 a9 a10 a11 a12) (token a0 a1 a2 r)) := by
  have h := hid_apply a0 a1 a2 a3 a4 a5 a6 a7 a8 a9 a10 a11 a12 r
  unfold k0_pay15 at h
  unfold k0_pay16
  simp only [View.ld_unit_zero (S := S2048x8192) h2, View.ld_unit_zero (S := S1x8192) h2, cst_zero] at h ⊢
  rw [pay12_apply]
  simp only [h]

variable (p : Fin 460) (s : Fin 8)

/-- Result 1: the output row. -/
theorem G13_apply (c : Fin 2048) : Value.G13 a0 a1 a2 a3 a4 a5 a6 a7 a8 a9 a10 a11 a12 (ix3 p s c)
    = MlpRow.out (MlpRow.params a3 a4 a5 a6 a7 a8 a9 a10 a11 a12) (token a0 a1 a2 ⟨p * 8 + s, by omega⟩) c := by
  unfold Value.G13
  rw [pay4_apply, pay5_apply a0 a1 a2 a3 a4 a5 a6 a7 a8 a9 a10 a11 a12, hidTop_apply]
  simp only [hid_apply]
  rfl

/-- Result 2: the codes of the normed row. -/
theorem G14_apply (c : Fin 2048) : Value.G14 a0 a1 a2 a3 a4 a5 a6 a7 a8 a9 a10 a11 a12 (ix3 p s c)
    = MlpRow.code3 (MlpRow.params a3 a4 a5 a6 a7 a8 a9 a10 a11 a12) (token a0 a1 a2 ⟨p * 8 + s, by omega⟩) c := by
  unfold Value.G14
  rw [cst_zero]
  pointwise [k0_pay10]
  rw [pay9_apply, normed_apply, top_apply]
  rfl

/-- Result 3: its scale. -/
theorem G15_apply : Value.G15 a0 a1 a2 a3 a4 a5 a6 a7 a8 a9 a10 a11 a12 (ix2 r 0)
    = MlpRow.scale3 (MlpRow.params a3 a4 a5 a6 a7 a8 a9 a10 a11 a12) (token a0 a1 a2 r) := by
  unfold Value.G15
  rw [cst_zero, pay8_apply, top_apply]
  rfl

/-- Result 4: the codes of the hidden row. -/
theorem G16_apply (c : Fin 8192) : Value.G16 a0 a1 a2 a3 a4 a5 a6 a7 a8 a9 a10 a11 a12 (ix3 p s c)
    = MlpRow.codeH (MlpRow.params a3 a4 a5 a6 a7 a8 a9 a10 a11 a12) (token a0 a1 a2 ⟨p * 8 + s, by omega⟩) c := by
  unfold Value.G16
  pointwise [k0_pay3]
  rw [pay2_apply, hid_apply, hidTop_apply]
  rfl

/-- Result 5: its scale. -/
theorem G17_apply : Value.G17 a0 a1 a2 a3 a4 a5 a6 a7 a8 a9 a10 a11 a12 (ix2 r 0)
    = MlpRow.scaleH (MlpRow.params a3 a4 a5 a6 a7 a8 a9 a10 a11 a12) (token a0 a1 a2 r) := by
  unfold Value.G17
  rw [pay1_apply, hidTop_apply]
  rfl
end
end MlpRef
-- ==== Proof.MlpArray.lean ====
/-
  The kernel's result arrays: grid point `t` holds the tokens 160 t … 160 t + 159, and the blocks the points write back
  cover the arrays, so each result array is the reference's function of the argument arrays.
-/
module

public import proofs.«01_k».proof.Proof.MlpOuts
public import proofs.«01_k».proof.Proof.MlpRef
public import proofs.«01_k».proof.Proof.Gen.MlpIdeal.Value
public import Idealize.ShloMosaic.Lib.Pipeline.ValueKit.Geometry

@[expose] public section

set_option maxRecDepth 16384

noncomputable section

namespace MlpArray

open Idealize.ShloMosaic Idealize.ShloMosaic.TcCoe Idealize.SL.Sem Cert.MlpIdeal Cert.MlpIdeal.Gen

/-! ## Where the blocks lie -/

theorem at0 : ∀ t : Fin cfg0.N, win0_0.index t = ![t.val, 0, 0] := (by decide +kernel : ∀ t : Fin grid0.N, _)
theorem at13 : ∀ t : Fin cfg0.N, win0_13.index t = ![t.val, 0, 0] := (by decide +kernel : ∀ t : Fin grid0.N, _)
theorem at14 : ∀ t : Fin cfg0.N, win0_14.index t = ![t.val, 0, 0] := (by decide +kernel : ∀ t : Fin grid0.N, _)
theorem at16 : ∀ t : Fin cfg0.N, win0_16.index t = ![t.val, 0, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at15 : ∀ t : Fin cfg0.N, win0_15.index t = ![t.val, 0] := (by decide +kernel : ∀ t : Fin grid0.N, _)
theorem at17 : ∀ t : Fin cfg0.N, win0_17.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)

section
variable (m : (ℓ : Loc nD τ sig) → Buf (Elt Ideal) ℓ)

theorem row_lt (t : Fin cfg0.N) (p : Fin 20) : 20 * t.val + p < 460 := by
  have := (show t.val < 23 from t.isLt); omega

theorem flat_lt (t : Fin cfg0.N) (r : Fin 160) : 160 * t.val + r < 3680 := by
  have := (show t.val < 23 from t.isLt); omega

/-! ## The blocks a point is given -/

theorem whole3 (c : Dev nD) (t : Fin cfg0.N) : iblk m c 3 t = m ((c : Thread nD τ).loc main_arg3) := by
  funext y
  blk_simp [iblk]
  show m ((c : Thread nD τ).loc main_arg3) _ = m ((c : Thread nD τ).loc main_arg3) _
  refine congrArg _ ?_
  blk_ext [at3]

theorem whole4 (c : Dev nD) (t : Fin cfg0.N) : iblk m c 4 t = m ((c : Thread nD τ).loc main_arg4) := by
  funext y
  blk_simp [iblk]
  show m ((c : Thread nD τ).loc main_arg4) _ = m ((c : Thread nD τ).loc main_arg4) _
  refine congrArg _ ?_
  blk_ext [at4]

theorem whole5 (c : Dev nD) (t : Fin cfg0.N) : iblk m c 5 t = m ((c : Thread nD τ).loc main_arg5) := by
  funext y
  blk_simp [iblk]
  show m ((c : Thread nD τ).loc main_arg5) _ = m ((c : Thread nD τ).loc main_arg5) _
  refine congrArg _ ?_
  blk_ext [at5]

theorem whole6 (c : Dev nD) (t : Fin cfg0.N) : iblk m c 6 t = m ((c : Thread nD τ).loc main_arg6) := by
  funext y
  blk_simp [iblk]
  show m ((c : Thread nD τ).loc main_arg6) _ = m ((c : Thread nD τ).loc main_arg6) _
  refine congrArg _ ?_
  blk_ext [at6]

theorem whole7 (c : Dev nD) (t : Fin cfg0.N) : iblk m c 7 t = m ((c : Thread nD τ).loc main_arg7) := by
  funext y
  blk_simp [iblk]
  show m ((c : Thread nD τ).loc main_arg7) _ = m ((c : Thread nD τ).loc main_arg7) _
  refine congrArg _ ?_
  blk_ext [at7]

theorem whole8 (c : Dev nD) (t : Fin cfg0.N) : iblk m c 8 t = m ((c : Thread nD τ).loc main_arg8) := by
  funext y
  blk_simp [iblk]
  show m ((c : Thread nD τ).loc main_arg8) _ = m ((c : Thread nD τ).loc main_arg8) _
  refine congrArg _ ?_
  blk_ext [at8]

theorem whole9 (c : Dev nD) (t : Fin cfg0.N) : iblk m c 9 t = m ((c : Thread nD τ).loc main_arg9) := by
  funext y
  blk_simp [iblk]
  show m ((c : Thread nD τ).loc main_arg9) _ = m ((c : Thread nD τ).loc main_arg9) _
  refine congrArg _ ?_
  blk_ext [at9]

theorem whole10 (c : Dev nD) (t : Fin cfg0.N) : iblk m c 10 t = m ((c : Thread nD τ).loc main_arg10) := by
  funext y
  blk_simp [iblk]
  show m ((c : Thread nD τ).loc main_arg10) _ = m ((c : Thread nD τ).loc main_arg10) _
  refine congrArg _ ?_
  blk_ext [at10]

theorem whole11 (c : Dev nD) (t : Fin cfg0.N) : iblk m c 11 t = m ((c : Thread nD τ).loc main_arg11) := by
  funext y
  blk_simp [iblk]
  show m ((c : Thread nD τ).loc main_arg11) _ = m ((c : Thread nD τ).loc main_arg11) _
  refine congrArg _ ?_
  blk_ext [at11]

theorem whole12 (c : Dev nD) (t : Fin cfg0.N) : iblk m c 12 t = m ((c : Thread nD τ).loc main_arg12) := by
  funext y
  blk_simp [iblk]
  show m ((c : Thread nD τ).loc main_arg12) _ = m ((c : Thread nD τ).loc main_arg12) _
  refine congrArg _ ?_
  blk_ext [at12]

/-- Token `r` of the blocks of point `t` is token `160 t + r` of the arrays. -/
theorem token_eq (c : Dev nD) (t : Fin cfg0.N) (r : Fin 160) (q : Fin 3680) (hq : (q : ℕ) = 160 * t + r) :
    MlpPoint.token (iblk m c 0 t) (iblk m c 1 t) (iblk m c 2 t) r
    = MlpRef.token (m ((c : Thread nD τ).loc main_arg0)) (m ((c : Thread nD τ).loc main_arg1)) (m ((c : Thread nD τ).loc main_arg2)) q := by
  have e0 : ∀ x, (iblk m c 0 t : Vec Ideal S20x8x2048 .fp8e4m3) (ix3 ⟨r / 8, by omega⟩ ⟨r % 8, by omega⟩ x)
      = (m ((c : Thread nD τ).loc main_arg0) : Vec Ideal S460x8x2048 .fp8e4m3) (ix3 ⟨q / 8, by omega⟩ ⟨q % 8, by omega⟩ x) := by
    intro x
    blk_simp [iblk]
    show m ((c : Thread nD τ).loc main_arg0) _ = m ((c : Thread nD τ).loc main_arg0) _
    refine congrArg _ ?_
    blk_ext [at0]
  have e1 : (iblk m c 1 t : Vec Ideal S160x1 .f32) (ix2 r 0)
      = (m ((c : Thread nD τ).loc main_arg1) : Vec Ideal S3680x1 .f32) (ix2 q 0) := by
    blk_simp [iblk]
    show m ((c : Thread nD τ).loc main_arg1) _ = m ((c : Thread nD τ).loc main_arg1) _
    refine congrArg _ ?_
    blk_ext [at1]
  have e2 : ∀ x, (iblk m c 2 t : Vec Ideal S160x2048 .f32) (ix2 r x)
      = (m ((c : Thread nD τ).loc main_arg2) : Vec Ideal S3680x2048 .f32) (ix2 q x) := by
    intro x
    blk_simp [iblk]
    show m ((c : Thread nD τ).loc main_arg2) _ = m ((c : Thread nD τ).loc main_arg2) _
    refine congrArg _ ?_
    blk_ext [at2]
  unfold MlpPoint.token MlpRef.token
  rw [e1]
  simp only [e0, e2]

/-- The codes of the normed rows. -/
theorem final14 (c : Dev nD) : (dats m 0 c).arrAt 14 cfg0.N = Cert.MlpRefIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf => ?_
  show ∀ y : S20x8x2048.Idx, _
  intro y
  idx_vars y
  blk_simp
  rw [after0_14]
  have he : (win0_14.blk t).view.emb (ix3 y0 y1 y2 : S20x8x2048.Idx) = ix3 ⟨20 * t.val + y0, row_lt t y0⟩ y1 y2 := by
    blk_ext [at14]
  rw [he, MlpRef.G14_apply, ← token_eq m c t ⟨y0 * 8 + y1, by omega⟩ _ (by show (20 * t.val + y0) * 8 + y1 = 160 * t.val + (y0 * 8 + y1); omega)]
  simp only [outsAt0]
  refine (MlpPoint.out14_apply ..).trans ?_
  rw [whole3, whole4, whole5, whole6, whole7, whole8, whole9, whole10, whole11, whole12]

/-- The codes of the hidden rows. -/
theorem final16 (c : Dev nD) : (dats m 0 c).arrAt 16 cfg0.N = Cert.MlpRefIdeal.Value.G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 16 _ (by decide +kernel) fun t hf => ?_
  show ∀ y : S20x8x8192.Idx, _
  intro y
  idx_vars y
  blk_simp
  rw [after0_16]
  have he : (win0_16.blk t).view.emb (ix3 y0 y1 y2 : S20x8x8192.Idx) = ix3 ⟨20 * t.val + y0, row_lt t y0⟩ y1 y2 := by
    blk_ext [at16]
  rw [he, MlpRef.G16_apply, ← token_eq m c t ⟨y0 * 8 + y1, by omega⟩ _ (by show (20 * t.val + y0) * 8 + y1 = 160 * t.val + (y0 * 8 + y1); omega)]
  simp only [outsAt0]
  refine (MlpPoint.out16_apply ..).trans ?_
  rw [whole3, whole4, whole5, whole6, whole7, whole8, whole9, whole10, whole11, whole12]

/-- The scales of the normed rows. -/
theorem final15 (c : Dev nD) : (dats m 0 c).arrAt 15 cfg0.N = Cert.MlpRefIdeal.Value.G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 15 _ (by decide +kernel) fun t hf => ?_
  show ∀ y : S160x1.Idx, _
  intro y
  idx_vars y
  obtain rfl : y1 = 0 := Subsingleton.elim _ _
  blk_simp
  rw [after0_15]
  have he : (win0_15.blk t).view.emb (ix2 y0 0 : S160x1.Idx) = ix2 ⟨160 * t.val + y0, flat_lt t y0⟩ 0 := by
    blk_ext [at15]
  rw [he, MlpRef.G15_apply, ← token_eq m c t y0 _ rfl]
  simp only [outsAt0]
  refine (MlpPoint.out15_apply ..).trans ?_
  rw [whole3, whole4, whole5, whole6, whole7, whole8, whole9, whole10, whole11, whole12]

/-- The scales of the hidden rows. -/
theorem final17 (c : Dev nD) : (dats m 0 c).arrAt 17 cfg0.N = Cert.MlpRefIdeal.Value.G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 17 _ (by decide +kernel) fun t hf => ?_
  show ∀ y : S160x1.Idx, _
  intro y
  idx_vars y
  obtain rfl : y1 = 0 := Subsingleton.elim _ _
  blk_simp
  rw [after0_17]
  have he : (win0_17.blk t).view.emb (ix2 y0 0 : S160x1.Idx) = ix2 ⟨160 * t.val + y0, flat_lt t y0⟩ 0 := by
    blk_ext [at17]
  rw [he, MlpRef.G17_apply, ← token_eq m c t y0 _ rfl]
  simp only [outsAt0]
  refine (MlpPoint.out17_apply ..).trans ?_
  rw [whole3, whole4, whole5, whole6, whole7, whole8, whole9, whole10, whole11, whole12]

/-- The result rows. -/
theorem final13 (c : Dev nD) : (dats m 0 c).arrAt 13 cfg0.N = Cert.MlpRefIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf => ?_
  show ∀ y : S20x8x2048.Idx, _
  intro y
  idx_vars y
  blk_simp
  rw [after0_13]
  have he : (win0_13.blk t).view.emb (ix3 y0 y1 y2 : S20x8x2048.Idx) = ix3 ⟨20 * t.val + y0, row_lt t y0⟩ y1 y2 := by
    blk_ext [at13]
  rw [he, MlpRef.G13_apply, ← token_eq m c t ⟨y0 * 8 + y1, by omega⟩ _ (by show (20 * t.val + y0) * 8 + y1 = 160 * t.val + (y0 * 8 + y1); omega)]
  simp only [outsAt0]
  refine (congrFun (MlpPoint.out13_apply ..) _).trans ?_
  rw [whole3, whole4, whole5, whole6, whole7, whole8, whole9, whole10, whole11, whole12]
  rfl

end
end MlpArray
-- ==== Proof.MlpEq.lean ====
/-
  The MLP call and its reference, run from memories that agree on the arguments, end with equal results.
-/
module

public import proofs.«01_k».proof.Defs
public import proofs.«01_k».proof.Proof.MlpArray

@[expose] public section

set_option maxRecDepth 16384

noncomputable section

namespace MlpEq

open Idealize.ShloMosaic Idealize.ShloMosaic.TcCoe Idealize.SL.Sem Cert.MlpIdeal Cert.MlpIdeal.Gen

theorem algebraic : Cert.algebraic_MlpIdeal_MlpRefIdeal (hMlpIdeal := Cert.MlpIdeal.Gen.facts)
    (hMlpRefIdeal := Cert.MlpRefIdeal.Gen.facts) := by
  intro m g m' g' _ hm
  refine ⟨fun c => (dats m 0 c).arrAt 13 cfg0.N, fun c => (dats m 0 c).arrAt 14 cfg0.N,
    fun c => (dats m 0 c).arrAt 15 cfg0.N, fun c => (dats m 0 c).arrAt 16 cfg0.N,
    fun c => (dats m 0 c).arrAt 17 cfg0.N, Cert.MlpIdeal.Value.run_blocks m g,
    (θ_run Cert.MlpRefIdeal.defs _ _).mono (fun r h c => ?_) (Cert.MlpRefIdeal.Value.run m' g')⟩
  obtain ⟨r13, r14, r15, r16, r17, kept⟩ := h c
  obtain ⟨h0, h1, h2, h3, h4, h5, h6, h7, h8, h9, h10, h11, h12⟩ := hm c
  rw [h0, h1, h2, h3, h4, h5, h6, h7, h8, h9, h10, h11, h12] at r13 r14 r15 r16 r17
  exact ⟨r13.trans (MlpArray.final13 m c).symm, r14.trans (MlpArray.final14 m c).symm,
    r15.trans (MlpArray.final15 m c).symm, r16.trans (MlpArray.final16 m c).symm,
    r17.trans (MlpArray.final17 m c).symm, kept⟩

end MlpEq
-- ==== Proof.lean ====
module

public import proofs.«01_k».proof.Defs
public import proofs.«01_k».proof.Proof.Ln1Eq
public import proofs.«01_k».proof.Proof.QkvTEq
public import proofs.«01_k».proof.Proof.MlpEq
public import proofs.«01_k».proof.Proof.Gen.Ln1
public import proofs.«01_k».proof.Proof.Gen.Ln1.Skeleton
public import proofs.«01_k».proof.Proof.Gen.Ln1.Launch
public import proofs.«01_k».proof.Proof.Gen.Ln1.Points
public import proofs.«01_k».proof.Proof.Gen.Ln1.Frame
public import proofs.«01_k».proof.Proof.Gen.Ln1Ideal
public import proofs.«01_k».proof.Proof.Gen.Ln1Ideal.Skeleton
public import proofs.«01_k».proof.Proof.Gen.Ln1Ideal.Launch
public import proofs.«01_k».proof.Proof.Gen.Ln1Ideal.Points
public import proofs.«01_k».proof.Proof.Gen.Ln1Ideal.Frame
public import proofs.«01_k».proof.Proof.Gen.Ln1RefIdeal
public import proofs.«01_k».proof.Proof.Gen.Ln1RefIdeal.Skeleton
public import proofs.«01_k».proof.Proof.Gen.Ln1RefIdeal.Launch
public import proofs.«01_k».proof.Proof.Gen.Ln1RefIdeal.Points
public import proofs.«01_k».proof.Proof.Gen.Ln1RefIdeal.Frame
public import proofs.«01_k».proof.Proof.Gen.Ln1RefIdeal.Value
public import proofs.«01_k».proof.Proof.Gen.QkvTIdeal.Value
public import proofs.«01_k».proof.Proof.Gen.QkvT
public import proofs.«01_k».proof.Proof.Gen.QkvT.Skeleton
public import proofs.«01_k».proof.Proof.Gen.QkvT.Launch
public import proofs.«01_k».proof.Proof.Gen.QkvT.Points
public import proofs.«01_k».proof.Proof.Gen.QkvT.Frame
public import proofs.«01_k».proof.Proof.Gen.QkvTIdeal
public import proofs.«01_k».proof.Proof.Gen.QkvTIdeal.Skeleton
public import proofs.«01_k».proof.Proof.Gen.QkvTIdeal.Launch
public import proofs.«01_k».proof.Proof.Gen.QkvTIdeal.Points
public import proofs.«01_k».proof.Proof.Gen.QkvTIdeal.Frame
public import proofs.«01_k».proof.Proof.Gen.QkvTRefIdeal
public import proofs.«01_k».proof.Proof.Gen.QkvTRefIdeal.Skeleton
public import proofs.«01_k».proof.Proof.Gen.QkvTRefIdeal.Launch
public import proofs.«01_k».proof.Proof.Gen.QkvTRefIdeal.Points
public import proofs.«01_k».proof.Proof.Gen.QkvTRefIdeal.Frame
public import proofs.«01_k».proof.Proof.Gen.MlpIdeal.Value
public import proofs.«01_k».proof.Proof.Gen.MlpRefIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import Idealize.ShloMosaic.Adequacy
public import Idealize.ShloMosaic.Init

@[expose] public section

noncomputable section

namespace Cert.Proof

open Idealize.ShloMosaic Idealize.SL.Sem Cert.Mlp

theorem claim : Cert.Claim :=
  ⟨Cert.Ln1.Gen.facts, Cert.Ln1Ideal.Gen.facts, Cert.Ln1RefIdeal.Gen.facts,
    Cert.QkvT.Gen.facts, Cert.QkvTIdeal.Gen.facts, Cert.QkvTRefIdeal.Gen.facts,
    Cert.Mlp.Gen.facts, Cert.MlpIdeal.Gen.facts, Cert.MlpRefIdeal.Gen.facts,
    fun m g _ => Cert.Ln1.Gen.frame m g, fun m g _ => Cert.Ln1Ideal.Gen.frame m g, fun m g _ => Cert.Ln1RefIdeal.Gen.frame m g,
    fun m g _ => Cert.QkvT.Gen.frame m g, fun m g _ => Cert.QkvTIdeal.Gen.frame m g, fun m g _ => Cert.QkvTRefIdeal.Gen.frame m g,
    fun m g _ => Cert.Mlp.Gen.frame m g, fun m g _ => Cert.MlpIdeal.Gen.frame m g, fun m g _ => Cert.MlpRefIdeal.Gen.frame m g,
    trivial, Ln1Eq.algebraic, trivial, QkvTEq.algebraic, trivial, MlpEq.algebraic⟩

end Cert.Proof

end
